-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v35) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v88) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite2.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8448x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8448x1024 .f32 := Host.absf main_arg4
  let main_cst_6 : FVec F S_ .f32 := constant S_ .f32 0x7F800000#32
  let main_v20 : FVec F S8448x1024 .f32 := broadcastInDim S8448x1024 ![] bcast_S_S8448x1024 main_cst_6
  let main_v21 : IVec S8448x1024 1 := cmpf .olt main_v19 main_v20
  let main_c_7 : IVec S_ 1 := constantI S_ 1 1#1
  let main_v22 : IVec S_ 1 := (fun x v => Host.reduce IntOp.andi x v reducesTo_S8448x1024_S_d0_1 h_S_) main_v21 main_c_7
  let main_v23 : IVec S_ 1 := andi main_v18 main_v22
  main_v23

def fn {F : FTy → Type} [FloatOps F] (main_arg0 : FVec F S8448x1024 .f32) (main_arg1 : FVec F S1x1024 .f32) (main_arg2 : FVec F S1024x5632 .f32) (main_arg3 : FVec F S2816x1024 .f32) (main_arg4 : FVec F S8448x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite6.lean ====
abbrev S2x4224x1024 : Shape := ⟨3, ![2, 4224, 1024]⟩
abbrev S2x4224x256 : Shape := ⟨3, ![2, 4224, 256]⟩
abbrev S2x4224x512 : Shape := ⟨3, ![2, 4224, 512]⟩
abbrev S1x16 : Shape := ⟨2, ![1, 16]⟩
abbrev S_ : Shape := ⟨0, ![]⟩

class Facts : Prop where
  bcast_S_S2x4224x1024 : S_.BroadcastsInDim S2x4224x1024 (![] : Fin 0 → Fin S2x4224x1024.rank)
  reducesTo_S2x4224x1024_S_d0_1_2 : S2x4224x1024.ReducesTo [0, 1, 2] S_
  h_S_ : 0 < S_.numel
  bcast_S_S2x4224x256 : S_.BroadcastsInDim S2x4224x256 (![] : Fin 0 → Fin S2x4224x256.rank)
  reducesTo_S2x4224x256_S_d0_1_2 : S2x4224x256.ReducesTo [0, 1, 2] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S2x4224x1024 .f32) (main_arg1 : FVec F S2x4224x256 .f32) (main_arg2 : FVec F S2x4224x512 .f32) (main_arg3 : FVec F S1x16 .f32) : IVec S_ 1 :=
  let main_v0 : FVec F S2x4224x1024 .f32 := Host.absf main_arg0
  let main_cst : FVec F S_ .f32 := constant S_ .f32 0x7F800000#32
  let main_v1 : FVec F S2x4224x1024 .f32 := broadcastInDim S2x4224x1024 ![] bcast_S_S2x4224x1024 main_cst
  let main_v2 : IVec S2x4224x1024 1 := cmpf .olt main_v0 main_v1
  let main_c : IVec S_ 1 := constantI S_ 1 1#1
  let main_v3 : IVec S_ 1 := (fun x v => Host.reduce IntOp.andi x v reducesTo_S2x4224x1024_S_d0_1_2 h_S_) main_v2 main_c
  let main_v4 : FVec F S2x4224x256 .f32 := Host.absf main_arg1
  let main_cst_0 : FVec F S_ .f32 := constant S_ .f32 0x7F800000#32
  let main_v5 : FVec F S2x4224x256 .f32 := broadcastInDim S2x4224x256 ![] bcast_S_S2x4224x256 main_cst_0
  let main_v6 : IVec S2x4224x256 1 := cmpf .olt main_v4 main_v5
  let main_c_1 : IVec S_ 1 := constantI S_ 1 1#1
  let main_v7 : IVec S_ 1 := (fun x v => Host.reduce IntOp.andi x v reducesTo_S2x4224x256_S_d0_1_2 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Kernel.lean ====
abbrev S2x4224x1024 : Shape := ⟨3, ![2, 4224, 1024]⟩
abbrev S2x4224x256 : Shape := ⟨3, ![2, 4224, 256]⟩
abbrev S2x4224x512 : Shape := ⟨3, ![2, 4224, 512]⟩
abbrev S1x16 : Shape := ⟨2, ![1, 16]⟩
abbrev S2x4096x1024 : Shape := ⟨3, ![2, 4096, 1024]⟩
abbrev S2x4112x256 : Shape := ⟨3, ![2, 4112, 256]⟩
abbrev S2x4112x4x64 : Shape := ⟨4, ![2, 4112, 4, 64]⟩
abbrev S2x32x128x4x4x64 : Shape := ⟨6, ![2, 32, 128, 4, 4, 64]⟩
abbrev S2x16x4x64 : Shape := ⟨4, ![2, 16, 4, 64]⟩
abbrev S2x4096x4x64 : Shape := ⟨4, ![2, 4096, 4, 64]⟩
abbrev S2x32x128x4x64 : Shape := ⟨5, ![2, 32, 128, 4, 64]⟩
abbrev S_ : Shape := ⟨0, ![]⟩
abbrev S2x1x128x4x64 : Shape := ⟨5, ![2, 1, 128, 4, 64]⟩
abbrev S2x31x128x4x64 : Shape := ⟨5, ![2, 31, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x16x32x128x4 : Shape := ⟨6, ![2, 4, 16, 32, 128, 4]⟩
abbrev S2x32x4x4x128x16 : Shape := ⟨6, ![2, 32, 4, 4, 128, 16]⟩
abbrev S4x4 : Shape := ⟨2, ![4, 4]⟩
abbrev S1x1x4x4x1 : Shape := ⟨5, ![1, 1, 4, 4, 1]⟩
abbrev S2x32x4x4x128 : Shape := ⟨5, ![2, 32, 4, 4, 128]⟩
abbrev S2x32x4x4x128x1 : Shape := ⟨6, ![2, 32, 4, 4, 128, 1]⟩
abbrev S2x32x4x64x4x128 : Shape := ⟨6, ![2, 32, 4, 64, 4, 128]⟩
abbrev S2x4x64x32x4x128 : Shape := ⟨6, ![2, 4, 64, 32, 4, 128]⟩
abbrev S2x32x128x4x4 : Shape := ⟨5, ![2, 32, 128, 4, 4]⟩
abbrev S2x32x128x4x4x1 : Shape := ⟨6, ![2, 32, 128, 4, 4, 1]⟩
abbrev S1x128 : Shape := ⟨2, ![1, 128]⟩
abbrev S1x128x1024 : Shape := ⟨3, ![1, 128, 1024]⟩
abbrev S1x4224x256 : Shape := ⟨3, ![1, 4224, 256]⟩
abbrev S4224x256 : Shape := ⟨2, ![4224, 256]⟩
abbrev S512x1 : Shape := ⟨2, ![512, 1]⟩
abbrev S256x256 : Shape := ⟨2, ![256, 256]⟩
abbrev S512x128 : Shape := ⟨2, ![512, 128]⟩
abbrev S512x256 : Shape := ⟨2, ![512, 256]⟩
abbrev S1x1 : Shape := ⟨2, ![1, 1]⟩
abbrev S512 : Shape := ⟨1, ![512]⟩
abbrev S1 : Shape := ⟨1, ![1]⟩

abbrev nBuf : Space → Nat
  | .hbm => 120
  | .vmem => 25
  | .smem => 1
  | _ => 0

abbrev bufTy : (tb : Table) → Fin (tcTables nBuf tb) → BufTy
  | .hbm, ⟨0, _⟩ => ⟨S2x4224x1024, .f32⟩
  | .hbm, ⟨1, _⟩ => ⟨S2x4224x256, .f32⟩
  | .hbm, ⟨2, _⟩ => ⟨S2x4224x512, .f32⟩
  | .hbm, ⟨3, _⟩ => ⟨S1x16, .f32⟩
  | .hbm, ⟨4, _⟩ => ⟨S2x4096x1024, .f32⟩
  | .hbm, ⟨5, _⟩ => ⟨S2x4096x1024, .f32⟩
  | .hbm, ⟨6, _⟩ => ⟨S2x4112x256, .f32⟩
  | .hbm, ⟨7, _⟩ => ⟨S2x4112x256, .f32⟩
  | .hbm, ⟨8, _⟩ => ⟨S2x4112x4x64, .f32⟩
  | .hbm, ⟨9, _⟩ => ⟨S2x4112x4x64, .f32⟩
  | .hbm, ⟨10, _⟩ => ⟨S2x32x128x4x4x64, .f32⟩
  | .hbm, ⟨11, _⟩ => ⟨S2x16x4x64, .f32⟩
  | .hbm, ⟨12, _⟩ => ⟨S2x16x4x64, .f32⟩
  | .hbm, ⟨13, _⟩ => ⟨S2x4096x4x64, .f32⟩
  | .hbm, ⟨14, _⟩ => ⟨S2x32x128x4x64, .f32⟩
  | .hbm, ⟨15, _⟩ => ⟨S2x4096x4x64, .f32⟩
  | .hbm, ⟨16, _⟩ => ⟨S2x32x128x4x64, .f32⟩
  | .hbm, ⟨17, _⟩ => ⟨S_, .f32⟩
  | .hbm, ⟨18, _⟩ => ⟨S2x1x128x4x64, .f32⟩
  | .hbm, ⟨19, _⟩ => ⟨S2x31x128x4x64, .f32⟩
  | .hbm, ⟨20, _⟩ => ⟨S2x32x128x4x64, .f32⟩
  | .hbm, ⟨21, _⟩ => ⟨S2x32x256x4x64, .f32⟩
  | .hbm, ⟨22, _⟩ => ⟨S2x31x128x4x64, .f32⟩
  | .hbm, ⟨23, _⟩ => ⟨S2x32x128x4x64, .f32⟩
  | .hbm, ⟨24, _⟩ => ⟨S2x32x256x4x64, .f32⟩
  | .hbm, ⟨25, _⟩ => ⟨S2x32x4x256x128x4, .f32⟩
  | .hbm, ⟨26, _⟩ => ⟨S2x32x4x4x128x256, .f32⟩
  | .hbm, ⟨27, _⟩ => ⟨S_, .f32⟩
  | .hbm, ⟨28, _⟩ => ⟨S2x32x4x4x128x256, .f32⟩
  | .hbm, ⟨29, _⟩ => ⟨S2x32x4x4x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S32, .i32⟩
  | .hbm, ⟨41, _⟩ => ⟨S32x1x1, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S_, .i32⟩
  | .hbm, ⟨50, _⟩ => ⟨S32x1x1, .i32⟩
  | .hbm, ⟨51, _⟩ => ⟨S32x1x1, .i1⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x1x256, .i1⟩
  | .hbm, ⟨56, _⟩ => ⟨S32x1x256, .i1⟩
  | .hbm, ⟨57, _⟩ => ⟨S32x1x256, .i1⟩
  | .hbm, ⟨58, _⟩ => ⟨S32x1x256, .i1⟩
  | .hbm, ⟨59, _⟩ => ⟨S1x128x256, .i1⟩
  | .hbm, ⟨60, _⟩ => ⟨S32x128x256, .i1⟩
  | .hbm, ⟨61, _⟩ => ⟨S32x128x256, .i1⟩
  | .hbm, ⟨62, _⟩ => ⟨S32x128x256, .i1⟩
  | .hbm, ⟨63, _⟩ => ⟨S1x32x1x1x128x256, .i1⟩
  | .hbm, ⟨64, _⟩ => ⟨S_, .f32⟩
  | .hbm, ⟨65, _⟩ => ⟨S_, .f32⟩
  | .hbm, ⟨66, _⟩ => ⟨S2x32x4x4x128x256, .i1⟩
  | .hbm, ⟨67, _⟩ => ⟨S2x32x4x4x128x256, .f32⟩
  | .hbm, ⟨68, _⟩ => ⟨S2x32x4x4x128x256, .f32⟩
  | .hbm, ⟨69, _⟩ => ⟨S2x4x16x32x128x4, .f32⟩
  | .hbm, ⟨70, _⟩ => ⟨S2x32x4x4x128x16, .f32⟩
  | .hbm, ⟨71, _⟩ => ⟨S_, .f32⟩
  | .hbm, ⟨72, _⟩ => ⟨S2x32x4x4x128x16, .f32⟩
  | .hbm, ⟨73, _⟩ => ⟨S2x32x4x4x128x16, .f32⟩
  | .hbm, ⟨74, _⟩ => ⟨S4x4, .f32⟩
  | .hbm, ⟨75, _⟩ => ⟨S1x1x4x4x1, .f32⟩
  | .hbm, ⟨76, _⟩ => ⟨S_, .f32⟩
  | .hbm, ⟨77, _⟩ => ⟨S2x32x4x4x128, .f32⟩
  | .hbm, ⟨78, _⟩ => ⟨S_, .f32⟩
  | .hbm, ⟨79, _⟩ => ⟨S2x32x4x4x128, .f32⟩
  | .hbm, ⟨80, _⟩ => ⟨S2x32x4x4x128, .f32⟩
  | .hbm, ⟨81, _⟩ => ⟨S2x32x4x4x128, .f32⟩
  | .hbm, ⟨82, _⟩ => ⟨S2x32x4x4x128, .f32⟩
  | .hbm, ⟨83, _⟩ => ⟨S2x32x4x4x128x1, .f32⟩
  | .hbm, ⟨84, _⟩ => ⟨S2x32x4x4x128x256, .f32⟩
  | .hbm, ⟨85, _⟩ => ⟨S2x32x4x4x128x256, .f32⟩
  | .hbm, ⟨86, _⟩ => ⟨S2x32x4x4x128x256, .f32⟩
  | .hbm, ⟨87, _⟩ => ⟨S2x32x4x4x128x1, .f32⟩
  | .hbm, ⟨88, _⟩ => ⟨S2x32x4x4x128x16, .f32⟩
  | .hbm, ⟨89, _⟩ => ⟨S2x32x4x4x128x16, .f32⟩
  | .hbm, ⟨90, _⟩ => ⟨S2x32x4x4x128x16, .f32⟩
  | .hbm, ⟨91, _⟩ => ⟨S_, .f32⟩
  | .hbm, ⟨92, _⟩ => ⟨S2x32x4x4x128, .f32⟩
  | .hbm, ⟨93, _⟩ => ⟨S_, .f32⟩
  | .hbm, ⟨94, _⟩ => ⟨S2x32x4x4x128, .f32⟩
  | .hbm, ⟨95, _⟩ => ⟨S2x32x4x4x128, .f32⟩
  | .hbm, ⟨96, _⟩ => ⟨S2x32x4x4x128, .f32⟩
  | .hbm, ⟨97, _⟩ => ⟨S2x32x4x4x128, .f32⟩
  | .hbm, ⟨98, _⟩ => ⟨S2x32x4x4x128, .f32⟩
  | .hbm, ⟨99, _⟩ => ⟨S2x32x4x4x128, .f32⟩
  | .hbm, ⟨100, _⟩ => ⟨S2x32x4x64x4x128, .f32⟩
  | .hbm, ⟨101, _⟩ => ⟨S2x32x128x4x4x64, .f32⟩
  | .hbm, ⟨102, _⟩ => ⟨S2x4x64x32x4x128, .f32⟩
  | .hbm, ⟨103, _⟩ => ⟨S2x32x128x4x4x64, .f32⟩
  | .hbm, ⟨104, _⟩ => ⟨S2x32x128x4x4x64, .f32⟩
  | .hbm, ⟨105, _⟩ => ⟨S2x32x128x4x4, .f32⟩
  | .hbm, ⟨106, _⟩ => ⟨S2x32x128x4x4x1, .f32⟩
  | .hbm, ⟨107, _⟩ => ⟨S2x32x128x4x4x64, .f32⟩
  | .hbm, ⟨108, _⟩ => ⟨S2x32x128x4x4x64, .f32⟩
  | .hbm, ⟨109, _⟩ => ⟨S2x4096x1024, .f32⟩
  | .hbm, ⟨110, _⟩ => ⟨S_, .i32⟩
  | .hbm, ⟨111, _⟩ => ⟨S_, .f32⟩
  | .hbm, ⟨112, _⟩ => ⟨S2x4224x1024, .f32⟩
  | .hbm, ⟨113, _⟩ => ⟨S_, .i32⟩
  | .hbm, ⟨114, _⟩ => ⟨S_, .f32⟩
  | .hbm, ⟨115, _⟩ => ⟨S2x4224x1024, .f32⟩
  | .hbm, ⟨116, _⟩ => ⟨S2x4224x1024, .f32⟩
  | .hbm, ⟨117, _⟩ => ⟨S2x4224x256, .f32⟩
  | .hbm, ⟨118, _⟩ => ⟨S2x4224x256, .f32⟩
  | .hbm, ⟨119, _⟩ => ⟨S1x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x4224x256, .f32⟩
  | .local _ .vmem, ⟨21, _⟩ => ⟨S1x4224x256, .f32⟩
  | .local _ .vmem, ⟨22, _⟩ => ⟨S1x4224x256, .f32⟩
  | .local _ .vmem, ⟨23, _⟩ => ⟨S1x4224x256, .f32⟩
  | .local _ .vmem, ⟨24, _⟩ => ⟨S1x128, .f32⟩
  | .local _ .smem, ⟨0, _⟩ => ⟨S1x16, .f32⟩
  | _, _ => ⟨S2x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_1 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_c_11 : Ref sig .tc := ⟨.hbm, 110, rfl⟩
abbrev main_call1_v0 : Ref sig .tc := ⟨.hbm, 111, rfl⟩
abbrev main_v89 : Ref sig .tc := ⟨.hbm, 112, rfl⟩
abbrev main_c_12 : Ref sig .tc := ⟨.hbm, 113, rfl⟩
abbrev main_call2_v0 : Ref sig .tc := ⟨.hbm, 114, rfl⟩
abbrev main_v90 : Ref sig .tc := ⟨.hbm, 115, rfl⟩
abbrev main_v91_0 : Ref sig .tc := ⟨.hbm, 116, rfl⟩
abbrev main_v91_1 : Ref sig .tc := ⟨.hbm, 117, rfl⟩
abbrev main_v91_2 : Ref sig .tc := ⟨.hbm, 118, rfl⟩
abbrev main_v91_3 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let arg1 : BitVec 32 := BitVec.ofNat 32 (i 1).val
  let c1_i32_682 : BitVec 32 := 1#32
  let v1847 : BitVec 32 := Scalar.subi arg1 c1_i32_682
  let c0_i32_683 : BitVec 32 := 0#32
  let v1848 : BitVec 32 := Scalar.maxsi v1847 c0_i32_683
  let c128_i32_684 : BitVec 32 := 128#32
  let v1849 : BitVec 32 := Scalar.muli v1848 c128_i32_684
  v1849
def k0_mult2 (i : grid0.Coords) : BitVec 32 :=
  let arg1 : BitVec 32 := BitVec.ofNat 32 (i 1).val
  let c128_i32_685 : BitVec 32 := 128#32
  let v1851 : BitVec 32 := Scalar.muli arg1 c128_i32_685
  v1851
def k0_off1 (i : grid0.Coords) : Fin 3 → Nat :=
  let c0_692 : Index := 0#32
  let arg1 : BitVec 32 := BitVec.ofNat 32 (i 1).val
  let c1_i32_682 : BitVec 32 := 1#32
  let v1847 : BitVec 32 := Scalar.subi arg1 c1_i32_682
  let c0_i32_683 : BitVec 32 := 0#32
  let v1848 : BitVec 32 := Scalar.maxsi v1847 c0_i32_683
  let c128_i32_684 : BitVec 32 := 128#32
  let v1849 : BitVec 32 := Scalar.muli v1848 c128_i32_684
  let v1850 : BitVec 32 := v1849
  let v1859 : Index := Scalar.indexCast v1850
  let c0_693 : Index := 0#32
  ![0, v1859.toNat, 0]
def k0_off2 (i : grid0.Coords) : Fin 3 → Nat :=
  let c0_696 : Index := 0#32
  let arg1 : BitVec 32 := BitVec.ofNat 32 (i 1).val
  let c128_i32_685 : BitVec 32 := 128#32
  let v1851 : BitVec 32 := Scalar.muli arg1 c128_i32_685
  let v1852 : BitVec 32 := v1851
  let v1868 : Index := Scalar.indexCast v1852
  let c0_697 : Index := 0#32
  ![0, v1868.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4224x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4224x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== KernelIdeal.lean ====
variable {F : FTy → Type} [FloatOps F] [Named F]
def κ : String → Option EReal := fun
  | "mask" => some ⊥
  | _ => none
-- ==== Kernel2.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S5632x1024 : Shape := ⟨2, ![5632, 1024]⟩
abbrev S8448x2816 : Shape := ⟨2, ![8448, 2816]⟩
abbrev S384x1024 : Shape := ⟨2, ![384, 1024]⟩
abbrev S384x5632 : Shape := ⟨2, ![384, 5632]⟩
abbrev S384x2816 : Shape := ⟨2, ![384, 2816]⟩
abbrev S384 : Shape := ⟨1, ![384]⟩
abbrev S384x1 : Shape := ⟨2, ![384, 1]⟩
abbrev S384x1536 : Shape := ⟨2, ![384, 1536]⟩
abbrev S1536x1024 : Shape := ⟨2, ![1536, 1024]⟩
abbrev S384x1280 : Shape := ⟨2, ![384, 1280]⟩
abbrev S1280x1024 : Shape := ⟨2, ![1280, 1024]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x5632, .f32⟩
  | .hbm, ⟨21, _⟩ => ⟨S8448x5632, .bf16⟩
  | .hbm, ⟨22, _⟩ => ⟨S5632x1024, .f32⟩
  | .hbm, ⟨23, _⟩ => ⟨S5632x1024, .bf16⟩
  | .hbm, ⟨24, _⟩ => ⟨S2816x1024, .bf16⟩
  | .hbm, ⟨25, _⟩ => ⟨S8448x1024, .f32⟩
  | .hbm, ⟨26, _⟩ => ⟨S8448x1024, .bf16⟩
  | .hbm, ⟨27, _⟩ => ⟨S8448x5632, .bf16⟩
  | .hbm, ⟨28, _⟩ => ⟨S8448x2816, .bf16⟩
  | .hbm, ⟨29, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x5632, .bf16⟩
  | .local _ .vmem, ⟨3, _⟩ => ⟨S384x5632, .bf16⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S5632x1024, .bf16⟩
  | .local _ .vmem, ⟨8, _⟩ => ⟨S2816x1024, .bf16⟩
  | .local _ .vmem, ⟨9, _⟩ => ⟨S384x1024, .f32⟩
  | .local _ .vmem, ⟨10, _⟩ => ⟨S384x1024, .f32⟩
  | .local _ .vmem, ⟨11, _⟩ => ⟨S384x1024, .bf16⟩
  | .local _ .vmem, ⟨12, _⟩ => ⟨S384x1024, .bf16⟩
  | .local _ .vmem, ⟨13, _⟩ => ⟨S384x5632, .bf16⟩
  | .local _ .vmem, ⟨14, _⟩ => ⟨S384x5632, .bf16⟩
  | .local _ .vmem, ⟨15, _⟩ => ⟨S384x2816, .bf16⟩
  | .local _ .vmem, ⟨16, _⟩ => ⟨S384x2816, .bf16⟩
  | .local _ .vmem, ⟨17, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v116 : BitVec 1 := Scalar.cmpi .eq arg0 c0_i32
  let v117 : BitVec 32 := Scalar.extui v116
  let c0_i32_59 : BitVec 32 := 0#32
  let v118 : BitVec 1 := Scalar.cmpi .ne v117 c0_i32_59
  v118

def k0_cond2 (i : grid0.Coords) : BitVec 1 :=
  let arg0 : BitVec 32 := BitVec.ofNat 32 (i 0).val
  let c0_i32_60 : BitVec 32 := 0#32
  let v119 : BitVec 1 := Scalar.cmpi .ne arg0 c0_i32_60
  let v120 : BitVec 32 := Scalar.extui v119
  let c0_i32_61 : BitVec 32 := 0#32
  let v121 : BitVec 1 := Scalar.cmpi .ne v120 c0_i32_61
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩
abbrev S1024 : Shape := ⟨1, ![1024]⟩
abbrev S1024x2816 : Shape := ⟨2, ![1024, 2816]⟩

abbrev nBuf : Space → Nat
  | .hbm => 130
  | .vmem => 0
  | .smem => 0
  | _ => 0

abbrev hbmTy0_0 (i : Nat) : BufTy := match i % 128 with
  | 0 => ⟨S8448x1024, .f32⟩
  | 1 => ⟨S1x1024, .f32⟩
  | 2 => ⟨S1024x5632, .f32⟩
  | 3 => ⟨S2816x1024, .f32⟩
  | 4 => ⟨S8448x1024, .f32⟩
  | 5 => ⟨S8448x1024, .f32⟩
  | 6 => ⟨S_, .f32⟩
  | 7 => ⟨S8448, .f32⟩
  | 8 => ⟨S8448x1, .f32⟩
  | 9 => ⟨S_, .f32⟩
  | 10 => ⟨S8448x1, .f32⟩
  | 11 => ⟨S8448x1, .f32⟩
  | 12 => ⟨S_, .f32⟩
  | 13 => ⟨S8448x1, .f32⟩
  | 14 => ⟨S8448x1, .f32⟩
  | 15 => ⟨S8448x1, .f32⟩
  | 16 => ⟨S8448x1, .f32⟩
  | 17 => ⟨S_, .f32⟩
  | 18 => ⟨S8448x1, .f32⟩
  | 19 => ⟨S8448x1, .f32⟩
  | 20 => ⟨S8448x1024, .f32⟩
  | 21 => ⟨S8448x1024, .f32⟩
  | 22 => ⟨S8448x1024, .f32⟩
  | 23 => ⟨S8448x1024, .f32⟩
  | 24 => ⟨S8448x5632, .f32⟩
  | 25 => ⟨S8448x2816, .f32⟩
  | 26 => ⟨S8448x2816, .f32⟩
  | 27 => ⟨S8448x2816, .f32⟩
  | 28 => ⟨S8448x2816, .f32⟩
  | 29 => ⟨S_, .f32⟩
  | 30 => ⟨S8448x2816, .f32⟩
  | 31 => ⟨S8448x2816, .f32⟩
  | 32 => ⟨S_, .f32⟩
  | 33 => ⟨S8448x2816, .f32⟩
  | 34 => ⟨S8448x2816, .f32⟩
  | 35 => ⟨S_, .f32⟩
  | 36 => ⟨S8448x2816, .f32⟩
  | 37 => ⟨S8448x2816, .f32⟩
  | 38 => ⟨S8448x2816, .f32⟩
  | 39 => ⟨S8448x2816, .f32⟩
  | 40 => ⟨S8448x2816, .f32⟩
  | 41 => ⟨S8448x1024, .f32⟩
  | 42 => ⟨S_, .f32⟩
  | 43 => ⟨S8448x1024, .f32⟩
  | 44 => ⟨S8448x1024, .f32⟩
  | 45 => ⟨S8448x1024, .f32⟩
  | 46 => ⟨S8448x1024, .f32⟩
  | 47 => ⟨S_, .f32⟩
  | 48 => ⟨S8448x1024, .f32⟩
  | 49 => ⟨S8448x1024, .f32⟩
  | 50 => ⟨S8448x2816, .f32⟩
  | 51 => ⟨S8448x2816, .f32⟩
  | 52 => ⟨S8448x2816, .f32⟩
  | 53 => ⟨S8448x2816, .f32⟩
  | 54 => ⟨S8448x2816, .f32⟩
  | 55 => ⟨S8448x2816, .f32⟩
  | 56 => ⟨S8448x2816, .f32⟩
  | 57 => ⟨S8448x5632, .f32⟩
  | 58 => ⟨S8448x1024, .f32⟩
  | 59 => ⟨S8448x1024, .f32⟩
  | 60 => ⟨S_, .f32⟩
  | 61 => ⟨S1024, .f32⟩
  | 62 => ⟨S1x1024, .f32⟩
  | 63 => ⟨S8448x1024, .f32⟩
  | 64 => ⟨S8448x1024, .f32⟩
  | 65 => ⟨S8448x1024, .f32⟩
  | 66 => ⟨S_, .f32⟩
  | 67 => ⟨S8448, .f32⟩
  | 68 => ⟨S8448x1, .f32⟩
  | 69 => ⟨S8448x1024, .f32⟩
  | 70 => ⟨S8448x1024, .f32⟩
  | 71 => ⟨S8448x1024, .f32⟩
  | 72 => ⟨S8448x1, .f32⟩
  | 73 => ⟨S_, .f32⟩
  | 74 => ⟨S8448x1, .f32⟩
  | 75 => ⟨S8448x1, .f32⟩
  | 76 => ⟨S_, .f32⟩
  | 77 => ⟨S8448, .f32⟩
  | 78 => ⟨S8448x1024, .f32⟩
  | 79 => ⟨S8448x1024, .f32⟩
  | 80 => ⟨S8448x1024, .f32⟩
  | 81 => ⟨S8448x1024, .f32⟩
  | 82 => ⟨S8448x1024, .f32⟩
  | 83 => ⟨S8448x1024, .f32⟩
  | 84 => ⟨S_, .f32⟩
  | 85 => ⟨S8448, .f32⟩
  | 86 => ⟨S8448x1, .f32⟩
  | 87 => ⟨S_, .f32⟩
  | 88 => ⟨S8448x1, .f32⟩
  | 89 => ⟨S8448x1, .f32⟩
  | 90 => ⟨S_, .f32⟩
  | 91 => ⟨S8448x1, .f32⟩
  | 92 => ⟨S8448x1, .f32⟩
  | 93 => ⟨S8448x1, .f32⟩
  | 94 => ⟨S8448x1024, .f32⟩
  | 95 => ⟨S8448x1024, .f32⟩
  | 96 => ⟨S8448x1024, .f32⟩
  | 97 => ⟨S8448x1024, .f32⟩
  | 98 => ⟨S8448x5632, .f32⟩
  | 99 => ⟨S8448x2816, .f32⟩
  | 100 => ⟨S8448x2816, .f32⟩
  | 101 => ⟨S8448x2816, .f32⟩
  | 102 => ⟨S8448x2816, .f32⟩
  | 103 => ⟨S_, .f32⟩
  | 104 => ⟨S8448x2816, .f32⟩
  | 105 => ⟨S8448x2816, .f32⟩
  | 106 => ⟨S_, .f32⟩
  | 107 => ⟨S8448x2816, .f32⟩
  | 108 => ⟨S8448x2816, .f32⟩
  | 109 => ⟨S_, .f32⟩
  | 110 => ⟨S8448x2816, .f32⟩
  | 111 => ⟨S8448x2816, .f32⟩
  | 112 => ⟨S8448x2816, .f32⟩
  | 113 => ⟨S8448x2816, .f32⟩
  | 114 => ⟨S8448x2816, .f32⟩
  | 115 => ⟨S_, .f32⟩
  | 116 => ⟨S8448x1024, .f32⟩
  | 117 => ⟨S8448x1024, .f32⟩
  | 118 => ⟨S1024x2816, .f32⟩
  | 119 => ⟨S8448x2816, .f32⟩
  | 120 => ⟨S8448x2816, .f32⟩
  | 121 => ⟨S8448x2816, .f32⟩
  | 122 => ⟨S8448x2816, .f32⟩
  | 123 => ⟨S8448x2816, .f32⟩
  | 124 => ⟨S8448x2816, .f32⟩
  | 125 => ⟨S8448x2816, .f32⟩
  | 126 => ⟨S8448x5632, .f32⟩
  | 127 => ⟨S8448x1024, .bf16⟩
  | _ => ⟨S8448x1024, .f32⟩

abbrev hbmTy0_1 (i : Nat) : BufTy := match i % 128 with
  | 0 => ⟨S8448x5632, .bf16⟩
  | 1 => ⟨S8448x2816, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_v68_2 : Ref sig .tc := ⟨.hbm, 108, rfl⟩
abbrev main_call2_cst_1 : Ref sig .tc := ⟨.hbm, 109, rfl⟩
abbrev main_call2_v6 : Ref sig .tc := ⟨.hbm, 110, rfl⟩
abbrev main_call2_v7 : Ref sig .tc := ⟨.hbm, 111, rfl⟩
abbrev main_v68_1 : Ref sig .tc := ⟨.hbm, 112, rfl⟩
abbrev main_v68_0 : Ref sig .tc := ⟨.hbm, 113, rfl⟩
abbrev main_v69 : Ref sig .tc := ⟨.hbm, 114, rfl⟩
abbrev main_cst_12 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩

abbrev nD : Nat := 1
abbrev τ : Topo := Topo.v7x

variable {F : FTy → Type} [FloatOps F]
-- ==== Kernel3.lean ====
abbrev S8448x5632 : Shape := ⟨2, ![8448, 5632]⟩
abbrev S8448x1024 : Shape := ⟨2, ![8448, 1024]⟩
abbrev S5632x1024 : Shape := ⟨2, ![5632, 1024]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S5632x1024, .f32⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .f32⟩
  | .local _ .vmem, ⟨5, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x5632 : Shape := ⟨2, ![8448, 5632]⟩
abbrev S8448x1024 : Shape := ⟨2, ![8448, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S5632x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8448x2816 : Shape := ⟨2, ![8448, 2816]⟩
abbrev S8448x1024 : Shape := ⟨2, ![8448, 1024]⟩
abbrev S8x352x1024 : Shape := ⟨3, ![8, 352, 1024]⟩
abbrev S1408x2816 : Shape := ⟨2, ![1408, 2816]⟩
abbrev S1408x512 : Shape := ⟨2, ![1408, 512]⟩
abbrev S8x352x512 : Shape := ⟨3, ![8, 352, 512]⟩
abbrev S2816x512 : Shape := ⟨2, ![2816, 512]⟩
abbrev S352x512 : Shape := ⟨2, ![352, 512]⟩
abbrev S1x352x512 : Shape := ⟨3, ![1, 352, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S8x352x1024, .f32⟩
  | .local _ .vmem, ⟨0, _⟩ => ⟨S1408x2816, .bf16⟩
  | .local _ .vmem, ⟨1, _⟩ => ⟨S1408x2816, .bf16⟩
  | .local _ .vmem, ⟨2, _⟩ => ⟨S1408x512, .f32⟩
  | .local _ .vmem, ⟨3, _⟩ => ⟨S1408x512, .f32⟩
  | .local _ .vmem, ⟨4, _⟩ => ⟨S8x352x512, .f32⟩
  | .local _ .vmem, ⟨5, _⟩ => ⟨S8x352x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg1 : BitVec 32 := BitVec.ofNat 32 (i 1).val
  let c0_i32_6 : BitVec 32 := 0#32
  let v10 : BitVec 1 := Scalar.cmpi .ne arg1 c0_i32_6
  let v11 : BitVec 32 := Scalar.extui v10
  let c0_i32_8 : BitVec 32 := 0#32
  let v12 : BitVec 1 := Scalar.cmpi .ne v11 c0_i32_8
  v12

def k0_cond3 (i : grid0.Coords) : BitVec 1 :=
  let arg1 : BitVec 32 := BitVec.ofNat 32 (i 1).val
  let c0_i32_9 : BitVec 32 := 0#32
  let v14 : BitVec 1 := Scalar.cmpi .eq arg1 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg1 : BitVec 32 := BitVec.ofNat 32 (i 1).val
  let c0_i32_11 : BitVec 32 := 0#32
  let v17 : BitVec 1 := Scalar.cmpi .ne arg1 c0_i32_11
  let v18 : BitVec 32 := Scalar.extui v17
  let c0_i32_13 : BitVec 32 := 0#32
  let v19 : BitVec 1 := Scalar.cmpi .ne v18 c0_i32_13
  v19

def k0_cond5 (i : grid0.Coords) : BitVec 1 :=
  let arg1 : BitVec 32 := BitVec.ofNat 32 (i 1).val
  let c0_i32_14 : BitVec 32 := 0#32
  let v21 : BitVec 1 := Scalar.cmpi .eq arg1 c0_i32_14
  let v22 : BitVec 32 := Scalar.extui v21
  let c0_i32_15 : BitVec 32 := 0#32
  let v23 : BitVec 1 := Scalar.cmpi .ne v22 c0_i32_15
  v23

def k0_cond6 (i : grid0.Coords) : BitVec 1 :=
  let arg1 : BitVec 32 := BitVec.ofNat 32 (i 1).val
  let c0_i32_16 : BitVec 32 := 0#32
  let v24 : BitVec 1 := Scalar.cmpi .ne arg1 c0_i32_16
  let v25 : BitVec 32 := Scalar.extui v24
  let c0_i32_18 : BitVec 32 := 0#32
  let v26 : BitVec 1 := Scalar.cmpi .ne v25 c0_i32_18
  v26

def k0_cond7 (i : grid0.Coords) : BitVec 1 :=
  let arg1 : BitVec 32 := BitVec.ofNat 32 (i 1).val
  let c0_i32_19 : BitVec 32 := 0#32
  let v28 : BitVec 1 := Scalar.cmpi .eq arg1 c0_i32_19
  let v29 : BitVec 32 := Scalar.extui v28
  let c0_i32_20 : BitVec 32 := 0#32
  let v30 : BitVec 1 := Scalar.cmpi .ne v29 c0_i32_20
  v30

def k0_cond8 (i : grid0.Coords) : BitVec 1 :=
  let arg1 : BitVec 32 := BitVec.ofNat 32 (i 1).val
  let c0_i32_21 : BitVec 32 := 0#32
  let v31 : BitVec 1 := Scalar.cmpi .ne arg1 c0_i32_21
  let v32 : BitVec 32 := Scalar.extui v31
  let c0_i32_23 : BitVec 32 := 0#32
  let v33 : BitVec 1 := Scalar.cmpi .ne v32 c0_i32_23
  v33

def k0_cond9 (i : grid0.Coords) : BitVec 1 :=
  let arg1 : BitVec 32 := BitVec.ofNat 32 (i 1).val
  let c0_i32_24 : BitVec 32 := 0#32
  let v35 : BitVec 1 := Scalar.cmpi .eq arg1 c0_i32_24
  let v36 : BitVec 32 := Scalar.extui v35
  let c0_i32_25 : BitVec 32 := 0#32
  let v37 : BitVec 1 := Scalar.cmpi .ne v36 c0_i32_25
  v37

def k0_cond10 (i : grid0.Coords) : BitVec 1 :=
  let arg1 : BitVec 32 := BitVec.ofNat 32 (i 1).val
  let c0_i32_26 : BitVec 32 := 0#32
  let v38 : BitVec 1 := Scalar.cmpi .ne arg1 c0_i32_26
  let v39 : BitVec 32 := Scalar.extui v38
  let c0_i32_28 : BitVec 32 := 0#32
  let v40 : BitVec 1 := Scalar.cmpi .ne v39 c0_i32_28
  v40

def k0_cond11 (i : grid0.Coords) : BitVec 1 :=
  let arg1 : BitVec 32 := BitVec.ofNat 32 (i 1).val
  let c0_i32_29 : BitVec 32 := 0#32
  let v42 : BitVec 1 := Scalar.cmpi .eq arg1 c0_i32_29
  let v43 : BitVec 32 := Scalar.extui v42
  let c0_i32_30 : BitVec 32 := 0#32
  let v44 : BitVec 1 := Scalar.cmpi .ne v43 c0_i32_30
  v44

def k0_cond12 (i : grid0.Coords) : BitVec 1 :=
  let arg1 : BitVec 32 := BitVec.ofNat 32 (i 1).val
  let c0_i32_31 : BitVec 32 := 0#32
  let v45 : BitVec 1 := Scalar.cmpi .ne arg1 c0_i32_31
  let v46 : BitVec 32 := Scalar.extui v45
  let c0_i32_33 : BitVec 32 := 0#32
  let v47 : BitVec 1 := Scalar.cmpi .ne v46 c0_i32_33
  v47

def k0_cond13 (i : grid0.Coords) : BitVec 1 :=
  let arg1 : BitVec 32 := BitVec.ofNat 32 (i 1).val
  let c0_i32_34 : BitVec 32 := 0#32
  let v49 : BitVec 1 := Scalar.cmpi .eq arg1 c0_i32_34
  let v50 : BitVec 32 := Scalar.extui v49
  let c0_i32_35 : BitVec 32 := 0#32
  let v51 : BitVec 1 := Scalar.cmpi .ne v50 c0_i32_35
  v51

def k0_cond14 (i : grid0.Coords) : BitVec 1 :=
  let arg1 : BitVec 32 := BitVec.ofNat 32 (i 1).val
  let c0_i32_36 : BitVec 32 := 0#32
  let v52 : BitVec 1 := Scalar.cmpi .ne arg1 c0_i32_36
  let v53 : BitVec 32 := Scalar.extui v52
  let c0_i32_38 : BitVec 32 := 0#32
  let v54 : BitVec 1 := Scalar.cmpi .ne v53 c0_i32_38
  v54

def k0_cond15 (i : grid0.Coords) : BitVec 1 :=
  let arg1 : BitVec 32 := BitVec.ofNat 32 (i 1).val
  let c0_i32_39 : BitVec 32 := 0#32
  let v56 : BitVec 1 := Scalar.cmpi .eq arg1 c0_i32_39
  let v57 : BitVec 32 := Scalar.extui v56
  let c0_i32_40 : BitVec 32 := 0#32
  let v58 : BitVec 1 := Scalar.cmpi .ne v57 c0_i32_40
  v58

def k0_cond16 (i : grid0.Coords) : BitVec 1 :=
  let arg1 : BitVec 32 := BitVec.ofNat 32 (i 1).val
  let c0_i32_41 : BitVec 32 := 0#32
  let v59 : BitVec 1 := Scalar.cmpi .ne arg1 c0_i32_41
  let v60 : BitVec 32 := Scalar.extui v59
  let c0_i32_43 : BitVec 32 := 0#32
  let v61 : BitVec 1 := Scalar.cmpi .ne v60 c0_i32_43
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S1024x2816, .f32⟩
  | .hbm, ⟨13, _⟩ => ⟨S2816x1024, .f32⟩
  | .hbm, ⟨14, _⟩ => ⟨S8x352x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8448x5632 : Shape := ⟨2, ![8448, 5632]⟩
abbrev S384x1024 : Shape := ⟨2, ![384, 1024]⟩
abbrev S384x5632 : Shape := ⟨2, ![384, 5632]⟩
abbrev S384 : Shape := ⟨1, ![384]⟩
abbrev S384x1 : Shape := ⟨2, ![384, 1]⟩
abbrev S1536x1024 : Shape := ⟨2, ![1536, 1024]⟩
abbrev S384x1536 : Shape := ⟨2, ![384, 1536]⟩
abbrev S1280x1024 : Shape := ⟨2, ![1280, 1024]⟩
abbrev S384x1280 : Shape := ⟨2, ![384, 1280]⟩

abbrev nBuf : Space → Nat
  | .hbm => 9
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S5632x1024, .f32⟩
  | .hbm, ⟨5, _⟩ => ⟨S5632x1024, .bf16⟩
  | .hbm, ⟨6, _⟩ => ⟨S2816x1024, .bf16⟩
  | .hbm, ⟨7, _⟩ => ⟨S8448x1024, .f32⟩
  | .hbm, ⟨8, _⟩ => ⟨S8448x5632, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S384x1024, .f32⟩
  | .local _ .vmem, ⟨6, _⟩ => ⟨S384x1024, .f32⟩
  | .local _ .vmem, ⟨7, _⟩ => ⟨S384x5632, .bf16⟩
  | .local _ .vmem, ⟨8, _⟩ => ⟨S384x5632, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8448x1024 : Shape := ⟨2, ![8448, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S8448x5632 : Shape := ⟨2, ![8448, 5632]⟩
abbrev S8448x2816 : Shape := ⟨2, ![8448, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x5632, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S_, .f32⟩
  | .hbm, ⟨25, _⟩ => ⟨S8448x2816, .f32⟩
  | .hbm, ⟨26, _⟩ => ⟨S8448x2816, .f32⟩
  | .hbm, ⟨27, _⟩ => ⟨S_, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x1024, .f32⟩
  | .hbm, ⟨33, _⟩ => ⟨S_, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448, .f32⟩
  | .hbm, ⟨40, _⟩ => ⟨S8448x1, .f32⟩
  | .hbm, ⟨41, _⟩ => ⟨S_, .f32⟩
  | .hbm, ⟨42, _⟩ => ⟨S8448x1, .f32⟩
  | .hbm, ⟨43, _⟩ => ⟨S8448x1, .f32⟩
  | .hbm, ⟨44, _⟩ => ⟨S_, .f32⟩
  | .hbm, ⟨45, _⟩ => ⟨S8448x1, .f32⟩
  | .hbm, ⟨46, _⟩ => ⟨S8448x1, .f32⟩
  | .hbm, ⟨47, _⟩ => ⟨S8448x1, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x5632, .f32⟩
  | .hbm, ⟨53, _⟩ => ⟨S8448x5632, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel6.lean ====
abbrev S2x4224x1024 : Shape := ⟨3, ![2, 4224, 1024]⟩
abbrev S2x4224x256 : Shape := ⟨3, ![2, 4224, 256]⟩
abbrev S2x4224x512 : Shape := ⟨3, ![2, 4224, 512]⟩
abbrev S1x16 : Shape := ⟨2, ![1, 16]⟩
abbrev S1x128x1024 : Shape := ⟨3, ![1, 128, 1024]⟩
abbrev S1x128x256 : Shape := ⟨3, ![1, 128, 256]⟩
abbrev S512x128 : Shape := ⟨2, ![512, 128]⟩
abbrev S512x256 : Shape := ⟨2, ![512, 256]⟩
abbrev S1x256 : Shape := ⟨2, ![1, 256]⟩
abbrev S128x256 : Shape := ⟨2, ![128, 256]⟩
abbrev S256x256 : Shape := ⟨2, ![256, 256]⟩
abbrev S512x1 : Shape := ⟨2, ![512, 1]⟩
abbrev S1x1 : Shape := ⟨2, ![1, 1]⟩
abbrev S512 : Shape := ⟨1, ![512]⟩
abbrev S2x4096x1024 : Shape := ⟨3, ![2, 4096, 1024]⟩

abbrev nBuf : Space → Nat
  | .hbm => 6
  | .vmem => 16
  | .smem => 1
  | _ => 0

abbrev bufTy : (tb : Table) → Fin (tcTables nBuf tb) → BufTy
  | .hbm, ⟨0, _⟩ => ⟨S2x4224x1024, .f32⟩
  | .hbm, ⟨1, _⟩ => ⟨S2x4224x256, .f32⟩
  | .hbm, ⟨2, _⟩ => ⟨S2x4224x512, .f32⟩
  | .hbm, ⟨3, _⟩ => ⟨S1x16, .f32⟩
  | .hbm, ⟨4, _⟩ => ⟨S2x4224x1024, .f32⟩
  | .hbm, ⟨5, _⟩ => ⟨S2x4096x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x1024, .f32⟩
  | .local _ .vmem, ⟨15, _⟩ => ⟨S1x128x1024, .f32⟩
  | .local _ .smem, ⟨0, _⟩ => ⟨S1x16, .f32⟩
  | _, _ => ⟨S2x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "mask" => some ⊥
  | _ => none
-- ==== Reference6Ideal.lean ====
abbrev S2x4224x1024 : Shape := ⟨3, ![2, 4224, 1024]⟩
abbrev S2x4224x256 : Shape := ⟨3, ![2, 4224, 256]⟩
abbrev S2x4224x512 : Shape := ⟨3, ![2, 4224, 512]⟩
abbrev S1x16 : Shape := ⟨2, ![1, 16]⟩
abbrev S2x4096x1024 : Shape := ⟨3, ![2, 4096, 1024]⟩
abbrev S2x4112x256 : Shape := ⟨3, ![2, 4112, 256]⟩
abbrev S2x4112x4x64 : Shape := ⟨4, ![2, 4112, 4, 64]⟩
abbrev S2x32x128x4x4x64 : Shape := ⟨6, ![2, 32, 128, 4, 4, 64]⟩
abbrev S2x16x4x64 : Shape := ⟨4, ![2, 16, 4, 64]⟩
abbrev S2x4096x4x64 : Shape := ⟨4, ![2, 4096, 4, 64]⟩
abbrev S2x32x128x4x64 : Shape := ⟨5, ![2, 32, 128, 4, 64]⟩
abbrev S_ : Shape := ⟨0, ![]⟩
abbrev S2x1x128x4x64 : Shape := ⟨5, ![2, 1, 128, 4, 64]⟩
abbrev S2x31x128x4x64 : Shape := ⟨5, ![2, 31, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x16x32x128x4 : Shape := ⟨6, ![2, 4, 16, 32, 128, 4]⟩
abbrev S2x32x4x4x128x16 : Shape := ⟨6, ![2, 32, 4, 4, 128, 16]⟩
abbrev S4x4 : Shape := ⟨2, ![4, 4]⟩
abbrev S1x1x4x4x1 : Shape := ⟨5, ![1, 1, 4, 4, 1]⟩
abbrev S2x32x4x4x128 : Shape := ⟨5, ![2, 32, 4, 4, 128]⟩
abbrev S2x32x4x4x128x1 : Shape := ⟨6, ![2, 32, 4, 4, 128, 1]⟩
abbrev S2x32x4x64x4x128 : Shape := ⟨6, ![2, 32, 4, 64, 4, 128]⟩
abbrev S2x4x64x32x4x128 : Shape := ⟨6, ![2, 4, 64, 32, 4, 128]⟩
abbrev S2x32x128x4x4 : Shape := ⟨5, ![2, 32, 128, 4, 4]⟩
abbrev S2x32x128x4x4x1 : Shape := ⟨6, ![2, 32, 128, 4, 4, 1]⟩

abbrev nBuf : Space → Nat
  | .hbm => 109
  | .vmem => 0
  | .smem => 0
  | _ => 0

abbrev bufTy : (tb : Table) → Fin (tcTables nBuf tb) → BufTy
  | .hbm, ⟨0, _⟩ => ⟨S2x4224x1024, .f32⟩
  | .hbm, ⟨1, _⟩ => ⟨S2x4224x256, .f32⟩
  | .hbm, ⟨2, _⟩ => ⟨S2x4224x512, .f32⟩
  | .hbm, ⟨3, _⟩ => ⟨S1x16, .f32⟩
  | .hbm, ⟨4, _⟩ => ⟨S2x4096x1024, .f32⟩
  | .hbm, ⟨5, _⟩ => ⟨S2x4112x256, .f32⟩
  | .hbm, ⟨6, _⟩ => ⟨S2x4112x256, .f32⟩
  | .hbm, ⟨7, _⟩ => ⟨S2x4112x4x64, .f32⟩
  | .hbm, ⟨8, _⟩ => ⟨S2x4112x4x64, .f32⟩
  | .hbm, ⟨9, _⟩ => ⟨S2x32x128x4x4x64, .f32⟩
  | .hbm, ⟨10, _⟩ => ⟨S2x16x4x64, .f32⟩
  | .hbm, ⟨11, _⟩ => ⟨S2x16x4x64, .f32⟩
  | .hbm, ⟨12, _⟩ => ⟨S2x4096x4x64, .f32⟩
  | .hbm, ⟨13, _⟩ => ⟨S2x32x128x4x64, .f32⟩
  | .hbm, ⟨14, _⟩ => ⟨S2x4096x4x64, .f32⟩
  | .hbm, ⟨15, _⟩ => ⟨S2x32x128x4x64, .f32⟩
  | .hbm, ⟨16, _⟩ => ⟨S_, .f32⟩
  | .hbm, ⟨17, _⟩ => ⟨S2x1x128x4x64, .f32⟩
  | .hbm, ⟨18, _⟩ => ⟨S2x31x128x4x64, .f32⟩
  | .hbm, ⟨19, _⟩ => ⟨S2x32x128x4x64, .f32⟩
  | .hbm, ⟨20, _⟩ => ⟨S2x32x256x4x64, .f32⟩
  | .hbm, ⟨21, _⟩ => ⟨S2x31x128x4x64, .f32⟩
  | .hbm, ⟨22, _⟩ => ⟨S2x32x128x4x64, .f32⟩
  | .hbm, ⟨23, _⟩ => ⟨S2x32x256x4x64, .f32⟩
  | .hbm, ⟨24, _⟩ => ⟨S2x32x4x256x128x4, .f32⟩
  | .hbm, ⟨25, _⟩ => ⟨S2x32x4x4x128x256, .f32⟩
  | .hbm, ⟨26, _⟩ => ⟨S_, .f32⟩
  | .hbm, ⟨27, _⟩ => ⟨S2x32x4x4x128x256, .f32⟩
  | .hbm, ⟨28, _⟩ => ⟨S2x32x4x4x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S_, .i32⟩
  | .hbm, ⟨49, _⟩ => ⟨S32x1x1, .i32⟩
  | .hbm, ⟨50, _⟩ => ⟨S32x1x1, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x1x256, .i1⟩
  | .hbm, ⟨55, _⟩ => ⟨S32x1x256, .i1⟩
  | .hbm, ⟨56, _⟩ => ⟨S32x1x256, .i1⟩
  | .hbm, ⟨57, _⟩ => ⟨S32x1x256, .i1⟩
  | .hbm, ⟨58, _⟩ => ⟨S1x128x256, .i1⟩
  | .hbm, ⟨59, _⟩ => ⟨S32x128x256, .i1⟩
  | .hbm, ⟨60, _⟩ => ⟨S32x128x256, .i1⟩
  | .hbm, ⟨61, _⟩ => ⟨S32x128x256, .i1⟩
  | .hbm, ⟨62, _⟩ => ⟨S1x32x1x1x128x256, .i1⟩
  | .hbm, ⟨63, _⟩ => ⟨S_, .f32⟩
  | .hbm, ⟨64, _⟩ => ⟨S_, .f32⟩
  | .hbm, ⟨65, _⟩ => ⟨S2x32x4x4x128x256, .i1⟩
  | .hbm, ⟨66, _⟩ => ⟨S2x32x4x4x128x256, .f32⟩
  | .hbm, ⟨67, _⟩ => ⟨S2x32x4x4x128x256, .f32⟩
  | .hbm, ⟨68, _⟩ => ⟨S2x4x16x32x128x4, .f32⟩
  | .hbm, ⟨69, _⟩ => ⟨S2x32x4x4x128x16, .f32⟩
  | .hbm, ⟨70, _⟩ => ⟨S_, .f32⟩
  | .hbm, ⟨71, _⟩ => ⟨S2x32x4x4x128x16, .f32⟩
  | .hbm, ⟨72, _⟩ => ⟨S2x32x4x4x128x16, .f32⟩
  | .hbm, ⟨73, _⟩ => ⟨S4x4, .f32⟩
  | .hbm, ⟨74, _⟩ => ⟨S1x1x4x4x1, .f32⟩
  | .hbm, ⟨75, _⟩ => ⟨S_, .f32⟩
  | .hbm, ⟨76, _⟩ => ⟨S2x32x4x4x128, .f32⟩
  | .hbm, ⟨77, _⟩ => ⟨S_, .f32⟩
  | .hbm, ⟨78, _⟩ => ⟨S2x32x4x4x128, .f32⟩
  | .hbm, ⟨79, _⟩ => ⟨S2x32x4x4x128, .f32⟩
  | .hbm, ⟨80, _⟩ => ⟨S2x32x4x4x128, .f32⟩
  | .hbm, ⟨81, _⟩ => ⟨S2x32x4x4x128, .f32⟩
  | .hbm, ⟨82, _⟩ => ⟨S2x32x4x4x128x1, .f32⟩
  | .hbm, ⟨83, _⟩ => ⟨S2x32x4x4x128x256, .f32⟩
  | .hbm, ⟨84, _⟩ => ⟨S2x32x4x4x128x256, .f32⟩
  | .hbm, ⟨85, _⟩ => ⟨S2x32x4x4x128x256, .f32⟩
  | .hbm, ⟨86, _⟩ => ⟨S2x32x4x4x128x1, .f32⟩
  | .hbm, ⟨87, _⟩ => ⟨S2x32x4x4x128x16, .f32⟩
  | .hbm, ⟨88, _⟩ => ⟨S2x32x4x4x128x16, .f32⟩
  | .hbm, ⟨89, _⟩ => ⟨S2x32x4x4x128x16, .f32⟩
  | .hbm, ⟨90, _⟩ => ⟨S_, .f32⟩
  | .hbm, ⟨91, _⟩ => ⟨S2x32x4x4x128, .f32⟩
  | .hbm, ⟨92, _⟩ => ⟨S_, .f32⟩
  | .hbm, ⟨93, _⟩ => ⟨S2x32x4x4x128, .f32⟩
  | .hbm, ⟨94, _⟩ => ⟨S2x32x4x4x128, .f32⟩
  | .hbm, ⟨95, _⟩ => ⟨S2x32x4x4x128, .f32⟩
  | .hbm, ⟨96, _⟩ => ⟨S2x32x4x4x128, .f32⟩
  | .hbm, ⟨97, _⟩ => ⟨S2x32x4x4x128, .f32⟩
  | .hbm, ⟨98, _⟩ => ⟨S2x32x4x4x128, .f32⟩
  | .hbm, ⟨99, _⟩ => ⟨S2x32x4x64x4x128, .f32⟩
  | .hbm, ⟨100, _⟩ => ⟨S2x32x128x4x4x64, .f32⟩
  | .hbm, ⟨101, _⟩ => ⟨S2x4x64x32x4x128, .f32⟩
  | .hbm, ⟨102, _⟩ => ⟨S2x32x128x4x4x64, .f32⟩
  | .hbm, ⟨103, _⟩ => ⟨S2x32x128x4x4x64, .f32⟩
  | .hbm, ⟨104, _⟩ => ⟨S2x32x128x4x4, .f32⟩
  | .hbm, ⟨105, _⟩ => ⟨S2x32x128x4x4x1, .f32⟩
  | .hbm, ⟨106, _⟩ => ⟨S2x32x128x4x4x64, .f32⟩
  | .hbm, ⟨107, _⟩ => ⟨S2x32x128x4x4x64, .f32⟩
  | .hbm, ⟨108, _⟩ => ⟨S2x4096x1024, .f32⟩
  | _, _ => ⟨S2x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_1 : Ref sig .tc := ⟨.hbm, 41, rfl⟩
abbrev main_v34 : Ref sig .tc := ⟨.hbm, 42, rfl⟩
abbrev main_v35 : Ref sig .tc := ⟨.hbm, 43, rfl⟩
abbrev main_c_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩

abbrev nD : Nat := 1
abbrev τ : Topo := Topo.v7x

variable {F : FTy → Type} [FloatOps F]

def κ : String → Option EReal := fun
  | "mask" => some ⊥
  | _ => none
-- ==== Proof.Run.Base.lean ====
/- What the runs of the attention gradient's body share: the two branch conditions in closed form over the grid
   points, and the staging memrefs of each window at a point. -/
module

public import proofs.«01_k».proof.Proof.Gen.KernelIdeal.Frame
public import proofs.«01_k».proof.Proof.Gen.KernelIdeal.Skeleton
public import Idealize.ShloMosaic.Lib.Ring
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The rows of the band's first block -/

/-- The first row of the band at a point: one block before the point's own, and the first block at the first two. -/
theorem k0_off1_eq : ∀ i : grid0.Coords, k0_off1 i = ![0, 128 * ((i 1).val - 1), 0] := by decide +kernel
instance closedOff_k0_off1 (i : grid0.Coords) : ClosedOff (k0_off1 i) := ⟨![0, 128 * ((i 1).val - 1), 0], k0_off1_eq i⟩

/-! ## The body's branch conditions -/

/-- The body clears the gradients of the keys and of the values: the point is the first of its batch row. -/
abbrev cond0_0 (i : grid0.Coords) : Prop := (Scalar.cmpi .ne (Scalar.extui (Scalar.cmpi .eq (BitVec.ofNat 32 (i 1).val) 0#32)) 0#32) = 1#1
/-- It does so at the points that 33 divides. -/
theorem hcond0_0 : ∀ t : Fin cfg0.N, cond0_0 (grid0.coords t) ↔ t.val % 33 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_0, e0, e1]
    word_cmp
   : ∀ t : Fin grid0.N, cond0_0 (grid0.coords t) ↔ t.val % 33 = 0)

/-- The body clears the gradient of the sinks: the point is the first of the grid. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It does so at the first point only. -/
theorem hcond0_1 : ∀ t : Fin cfg0.N, cond0_1 (grid0.coords t) ↔ t.val % 66 = 0 :=
  (fun t => by
    have ht : t.val < 66 := Nat.lt_of_lt_of_eq t.isLt N_0
    have e0 : (grid0.coords t 0).val = t.val / 33 % 2 := Pipeline.Grid.coords_val t 0 (by decide) rfl
    have e1 : (grid0.coords t 1).val = t.val / 1 % 33 := Pipeline.Grid.coords_val t 1 (by decide) rfl
    simp only [cond0_1, e0, e1]
    word_cmp
   : ∀ t : Fin grid0.N, cond0_1 (grid0.coords t) ↔ t.val % 66 = 0)

/-! ## The buffers -/

/-- The buffer of the gradient of the queries. -/
abbrev VO0_10 : View sig .tc .vmem S1x128x1024 .f32 := (Memref.whole cc0_stg10_0 : Memref sig .tc .vmem S1x128x1024 .f32).view
/-- The buffer of the gradient of the keys. -/
abbrev VO0_11 : View sig .tc .vmem S1x4224x256 .f32 := (Memref.whole cc0_stg11_0 : Memref sig .tc .vmem S1x4224x256 .f32).view
/-- The buffer of the gradient of the values. -/
abbrev VO0_12 : View sig .tc .vmem S1x4224x256 .f32 := (Memref.whole cc0_stg12_0 : Memref sig .tc .vmem S1x4224x256 .f32).view
/-- The buffer of the gradient of the sinks. -/
abbrev VO0_13 : View sig .tc .vmem S1x128 .f32 := (Memref.whole cc0_stg13_0 : Memref sig .tc .vmem S1x128 .f32).view
/-- Each window's buffer at a point. -/
abbrev ms0_0 (t : Fin cfg0.N) : Memref sig .tc .vmem S1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4224x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x4224x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)

end Cert.KernelIdeal.Run

end
-- ==== Proof.Run.RunA.lean ====
/- The run of the attention gradient's whole body at the first point of the grid, where the gradients of the keys, of the values and of the sinks are all cleared first. -/
module

public import proofs.«01_k».proof.Proof.Run.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the proof is long, hence the larger budget)
set_option maxHeartbeats 1100000 in
/-- The body run at the first point of the grid: from the inputs' blocks and whatever the results' buffers hold it ends with the inputs
    unchanged and each result's buffer holding the listed stores, the last first. -/
noncomputable def kernelRun0_A (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) :
    Σ' (L10 : List (View.Piece (Elt F) S1x128x1024 .f32)), Σ' (L11 : List (View.Piece (Elt F) S1x4224x256 .f32)), Σ' (L12 : List (View.Piece (Elt F) S1x4224x256 .f32)), { L13 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    iexists _; iexact H13

end Cert.KernelIdeal.Run

end
-- ==== Proof.Run.RunB.lean ====
/- The run of the attention gradient's whole body at a point that clears nothing. -/
module

public import proofs.«01_k».proof.Proof.Run.RunA

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the proof is long, hence the larger budget)
set_option maxHeartbeats 1068000 in
/-- The body run at a point that clears nothing: from the inputs' blocks and whatever the results' buffers hold it ends with the inputs
    unchanged and each result's buffer holding the listed stores, the last first. -/
noncomputable def kernelRun0_B (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) :
    Σ' (L10 : List (View.Piece (Elt F) S1x128x1024 .f32)), Σ' (L11 : List (View.Piece (Elt F) S1x4224x256 .f32)), Σ' (L12 : List (View.Piece (Elt F) S1x4224x256 .f32)), { L13 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xo11) L11) ∗ (arg14.view.loc (c : Thread nD τ) ↦[arg14.view.set]{fullShare} arg14.view.writes (Elt F) (harg14.unread xo12) L12) ∗ (∃ f, arg15.view.loc (c : Thread nD τ) ↦[arg15.view.set]{fullShare} arg15.view.writes (Elt F) f L13)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexact H11
    isplitl [H12]; · iexact H12
    iexists _; iexact H13

end Cert.KernelIdeal.Run

end
-- ==== Proof.Run.RunC.lean ====
/- The run of the attention gradient's whole body at the first point of the second batch row, where the gradients of the keys and values are cleared and that of the sinks is not. -/
module

public import proofs.«01_k».proof.Proof.Run.RunB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the proof is long, hence the larger budget)
set_option maxHeartbeats 1092000 in
/-- The body run at the first point of the second batch row: from the inputs' blocks and whatever the results' buffers hold it ends with the inputs
    unchanged and each result's buffer holding the listed stores, the last first. -/
noncomputable def kernelRun0_C (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) :
    Σ' (L10 : List (View.Piece (Elt F) S1x128x1024 .f32)), Σ' (L11 : List (View.Piece (Elt F) S1x4224x256 .f32)), Σ' (L12 : List (View.Piece (Elt F) S1x4224x256 .f32)), { L13 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    iexists _; iexact H13

end Cert.KernelIdeal.Run

end
-- ==== Proof.Run.Frame.lean ====
/- The frame of the attention gradient: what each grid point leaves in the four results' staging buffers, the
   pipeline's proof data, the body at every point, the run of the whole program, and the frame. -/
module

public import proofs.«01_k».proof.Proof.Run.RunC
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- At the first point of the grid the stores into the buffer of the gradient of the queries cover it. -/
theorem cover0_A_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (y : S1x128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1 S1x128x256.size (by sl_kernel_rfl) y

/-- What the first point of the grid leaves in the buffer of the gradient of the queries. -/
def out0_A_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) : Vec F S1x128x1024 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).1)

/-- At the first point of the grid the stores into the buffer of the gradient of the keys cover it. -/
theorem cover0_A_11 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (y : S1x4224x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1 (by sl_whole_mem) y

/-- What the first point of the grid leaves in the buffer of the gradient of the keys. -/
def out0_A_11 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) : Vec F S1x4224x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.1)

/-- At the first point of the grid the stores into the buffer of the gradient of the values cover it. -/
theorem cover0_A_12 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (y : S1x4224x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1 (by sl_whole_mem) y

/-- What the first point of the grid leaves in the buffer of the gradient of the values. -/
def out0_A_12 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) : Vec F S1x4224x256 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.1)

/-- At the first point of the grid the stores into the buffer of the gradient of the sinks cover it. -/
theorem cover0_A_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1 S1x128.size (by sl_kernel_rfl) y

/-- What the first point of the grid leaves in the buffer of the gradient of the sinks. -/
def out0_A_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) : Vec F S1x128 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9).2.2.2.1)

/-- At a point that clears nothing the stores into the buffer of the gradient of the queries cover it. -/
theorem cover0_B_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) (y : S1x128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).1 S1x128x256.size (by sl_kernel_rfl) y

/-- What a point that clears nothing leaves in the buffer of the gradient of the queries. -/
def out0_B_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) : Vec F S1x128x1024 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).1)

/-- What a point that clears nothing leaves in the buffer of the gradient of the keys. -/
def out0_B_11 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) : Vec F S1x4224x256 .f32 :=
  arg13.view.read (Elt F) (arg13.view.writes (Elt F) (harg13.unread xo11) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).2.1)

/-- What a point that clears nothing leaves in the buffer of the gradient of the values. -/
def out0_B_12 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) : Vec F S1x4224x256 .f32 :=
  arg14.view.read (Elt F) (arg14.view.writes (Elt F) (harg14.unread xo12) (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).2.2.1)

/-- At a point that clears nothing the stores into the buffer of the gradient of the sinks cover it. -/
theorem cover0_B_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).2.2.2.1 S1x128.size (by sl_kernel_rfl) y

/-- What a point that clears nothing leaves in the buffer of the gradient of the sinks. -/
def out0_B_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : ¬cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo11 : Vec F S1x4224x256 .f32) (xo12 : Vec F S1x4224x256 .f32) (xo13 : Vec F S1x128 .f32) : Vec F S1x128 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo11 xo12 xo13).2.2.2.1)

/-- At the first point of the second batch row the stores into the buffer of the gradient of the queries cover it. -/
theorem cover0_C_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) (y : S1x128x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).1 S1x128x256.size (by sl_kernel_rfl) y

/-- What the first point of the second batch row leaves in the buffer of the gradient of the queries. -/
def out0_C_10 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) : Vec F S1x128x1024 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).1)

/-- At the first point of the second batch row the stores into the buffer of the gradient of the keys cover it. -/
theorem cover0_C_11 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) (y : S1x4224x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.1 (by sl_whole_mem) y

/-- What the first point of the second batch row leaves in the buffer of the gradient of the keys. -/
def out0_C_11 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) : Vec F S1x4224x256 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.1)

/-- At the first point of the second batch row the stores into the buffer of the gradient of the values cover it. -/
theorem cover0_C_12 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) (y : S1x4224x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.1, y ∈ pc.1.set :=
  View.cover_of_wholeMem (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.1 (by sl_whole_mem) y

/-- What the first point of the second batch row leaves in the buffer of the gradient of the values. -/
def out0_C_12 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) : Vec F S1x4224x256 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.1)

/-- At the first point of the second batch row the stores into the buffer of the gradient of the sinks cover it. -/
theorem cover0_C_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.2.1 S1x128.size (by sl_kernel_rfl) y

/-- What the first point of the second batch row leaves in the buffer of the gradient of the sinks. -/
def out0_C_13 (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1x4224x256 .f32) (harg13 : arg13.IsWhole) (arg14 : Memref sig .tc .vmem S1x4224x256 .f32) (harg14 : arg14.IsWhole) (arg15 : Memref sig .tc .vmem S1x128 .f32) (harg15 : arg15.IsWhole) (hc0 : cond0_0 i) (hc1 : ¬cond0_1 i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S1x16 .f32) (x8 : Vec F S1x128x1024 .f32) (x9 : Vec F S1x128x1024 .f32) (xo13 : Vec F S1x128 .f32) : Vec F S1x128 .f32 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xo13).2.2.2.1)

/-! ## What the outputs hold after each point -/

/-- What the four results' buffers hold after each point: the gradients of the keys, of the values and of the sinks
    continue from the point before, except where they are cleared. -/
def outsAt0 (c : Dev nD) : (n : ℕ) → n < cfg0.N → Vec F S1x128x1024 .f32 × Vec F S1x4224x256 .f32 × Vec F S1x4224x256 .f32 × Vec F S1x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 33 = 0 then
      if h1 : (n + 1) % 66 = 0 then
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
      else
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2)
    else
      if h1 : (n + 1) % 66 = 0 then
        False.elim (by have hN : n + 1 < 66 := lt_of_lt_of_eq hn (show cfg0.N = 66 from N_0); omega)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2.1 (outsAt0 c n (Nat.lt_of_succ_lt hn)).2.2.2)

/-- At the first point of the grid it is what that case leaves. -/
theorem outsAt0_A (c : Dev nD) (t : Fin cfg0.N) (h0 : t.val % 33 = 0) (h1 : t.val % 66 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans rfl)

/-- At a point that clears nothing it is what that case leaves. -/
theorem outsAt0_B (c : Dev nD) (t : Fin cfg0.N) (h0 : ¬t.val % 33 = 0) (h1 : ¬t.val % 66 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At the first point of the second batch row it is what that case leaves. -/
theorem outsAt0_C (c : Dev nD) (t : Fin cfg0.N) (h0 : t.val % 33 = 0) (h1 : ¬t.val % 66 = 0) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2) := by
  obtain ⟨n, hn⟩ := t
  cases n with
  | zero => exact (by exfalso; (try dsimp only at h1); exact absurd (Nat.zero_mod _) h1)
  | succ n => exact (dif_pos h0).trans ((dif_neg h1).trans rfl)

/-! ## What the launch holds -/

/-- What the launch holds on each core: the arrays as the launch finds them, each input's buffer at its block after
    every point, and the results' buffers as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2
  Φ _ := Pipeline.ΦA spec0 c
  q w := Pipeline.shareOf spec0 w
  owed _ := 0

/-- Its arrays are those that the launch finds. -/
theorem A_eq (c : Dev nD) (w : Fin cfg0.W) : (dats m 0 c).A w = V m c (Pipeline.arrRef spec0 w) := by
  dsimp only [dats]

/-- What the body leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2 := by dsimp only [dats]

/-- Before every point each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- Before a point that clears nothing the buffer of the gradient of the keys holds what the point before left: it was not written back between. -/
theorem before0_11_B (c : Dev nD) (t : Fin cfg0.N) (h0 : ¬t.val % 33 = 0) (h1 : ¬t.val % 66 = 0) (d) :
    (dats m 0 c).before 11 t d = (outsAt0 m c (t.val - 1) (Nat.lt_of_le_of_lt (Nat.sub_le _ _) t.isLt)).2.1 := by
  have hN : t.val < 66 := lt_of_lt_of_eq t.isLt (show cfg0.N = 66 from N_0)
  rw [Dat.before_out_kept _ 11 rfl t (by omega) (Bool.eq_false_iff.mpr fun h => by have := (flush0_11 _).mp h; dsimp only at this; omega)
    (fun _ => rfl) (fun _ _ => rfl)]
  dsimp only [dats]
/-- Before a point that clears nothing the buffer of the gradient of the values holds what the point before left: it was not written back between. -/
theorem before0_12_B (c : Dev nD) (t : Fin cfg0.N) (h0 : ¬t.val % 33 = 0) (h1 : ¬t.val % 66 = 0) (d) :
    (dats m 0 c).before 12 t d = (outsAt0 m c (t.val - 1) (Nat.lt_of_le_of_lt (Nat.sub_le _ _) t.isLt)).2.2.1 := by
  have hN : t.val < 66 := lt_of_lt_of_eq t.isLt (show cfg0.N = 66 from N_0)
  rw [Dat.before_out_kept _ 12 rfl t (by omega) (Bool.eq_false_iff.mpr fun h => by have := (flush0_12 _).mp h; dsimp only at this; omega)
    (fun _ => rfl) (fun _ _ => rfl)]
  dsimp only [dats]
/-- Before a point that clears nothing the buffer of the gradient of the sinks holds what the point before left: it was not written back between. -/
theorem before0_13_B (c : Dev nD) (t : Fin cfg0.N) (h0 : ¬t.val % 33 = 0) (h1 : ¬t.val % 66 = 0) (d) :
    (dats m 0 c).before 13 t d = (outsAt0 m c (t.val - 1) (Nat.lt_of_le_of_lt (Nat.sub_le _ _) t.isLt)).2.2.2 := by
  have hN : t.val < 66 := lt_of_lt_of_eq t.isLt (show cfg0.N = 66 from N_0)
  rw [Dat.before_out_kept _ 13 rfl t (by omega) (Bool.eq_false_iff.mpr fun h => by have := (flush0_13 _).mp h; dsimp only at this; omega)
    (fun _ => rfl) (fun _ _ => rfl)]
  dsimp only [dats]
/-- Before the first point of the second batch row the buffer of the gradient of the sinks holds what the point before left: it was not written back between. -/
theorem before0_13_C (c : Dev nD) (t : Fin cfg0.N) (h0 : t.val % 33 = 0) (h1 : ¬t.val % 66 = 0) (d) :
    (dats m 0 c).before 13 t d = (outsAt0 m c (t.val - 1) (Nat.lt_of_le_of_lt (Nat.sub_le _ _) t.isLt)).2.2.2 := by
  have hN : t.val < 66 := lt_of_lt_of_eq t.isLt (show cfg0.N = 66 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body at any point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 3600000 in
/-- The body at any point takes the first to the second, whichever of the three cases the point is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  have hN : t.val < 66 := lt_of_lt_of_eq t.isLt (show cfg0.N = 66 from N_0)
  by_cases h0 : t.val % 33 = 0
  · by_cases h1 : t.val % 66 = 0
    · rw [outsAt0_A m c t h0 h1]
      unfold out0_A_10 out0_A_11 out0_A_12 out0_A_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      iintro ⟨H0, H1, H2, H3, H4, H5, H6, H7, H8, H9, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _)
    · rw [outsAt0_C m c t h0 h1]
      simp only [before0_13_C m c t h0 h1]
      unfold out0_C_10 out0_C_11 out0_C_12 out0_C_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_C c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexact H13
      iintro ⟨H0, H1, H2, H3, H4, H5, H6, H7, H8, H9, ⟨%e10, H10⟩, ⟨%e11, H11⟩, ⟨%e12, H12⟩, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_C_11 c _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_C_13 c _ _ _ _ _ _ _ _ _ _ _ _ _ _ _ _ _ _ _ _ _ _ _ _ _ _ _ _ _ _ _ _ _ _ _ _ _ _ _ _ _ _)
  · by_cases h1 : t.val % 66 = 0
    · exfalso; omega
    · rw [outsAt0_B m c t h0 h1]
      simp only [before0_11_B m c t h0 h1, before0_12_B m c t h0 h1, before0_13_B m c t h0 h1]
      unfold out0_B_10 out0_B_11 out0_B_12 out0_B_13; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexact H13
      iintro ⟨H0, H1, H2, H3, H4, H5, H6, H7, H8, H9, ⟨%e10, H10⟩, H11, H12, ⟨%e13, H13⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; rfl
      isplitl [H12]
      · unfold owns; iexists _; isplitr
        swap; · iexact H12
        ipureintro; rfl
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _)

/-- The body that the launch runs at a point is this one. -/
theorem defs₀_row (t : Fin cfg0.N) :
    defs₀ (F := F) .tc cfg0.body (cfg0.bodyArgs t (cfg0.slots t)) = bodyAt0 t := by
  unfold defs₀; rw [Defs.onTc_tc]

/-- So the body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair run of the program ends with the arrays as stated and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every fair run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Run.Printed.lean ====
/- The attention gradient as printed: the idealized program with its one named constant read as the word that the
   program writes for it, so that the frame is the same frame. -/
module

public import proofs.«01_k».proof.Defs
public import proofs.«01_k».proof.Proof.Gen.Kernel
public import proofs.«01_k».proof.Proof.Run.Frame
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.SL.Sem

/-- As printed, every constant is the word that the program writes for it. -/
@[reducible] def printedNames : Named Bits := ⟨fun _ _ {φ} bits => Scalar.ofBits φ bits⟩

attribute [local instance] printedNames

/-- The idealized program's frame, stated of it at bit patterns and with its constants as printed. -/
def FrameAtBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frameAtBits : FrameAtBits := fun m ρ _ => frame (F := Bits) m ρ

/-- That is what the frame of the printed program says: the two programs are one text. -/
theorem frameAtBits_eq : FrameAtBits = Cert.quiescent_Kernel (hKernel := Cert.Kernel.Gen.facts) := by
  sl_kernel_rfl

end Cert.KernelIdeal.Run

end
-- ==== Proof.Ffn.Row.lean ====
/- One row of the FFN and of its gradient over the extended reals: the norm, the gated unit, the gradient of each. What
   the kernel writes and what differentiation writes are the same on real rows. -/
module

public import Idealize.ShloMosaic.PureOps.Ideal
public import Idealize.ShloMosaic.PureOps.Ideal.Laws
public import Idealize.ShloMosaic.Lib.IdealHost

@[expose] public section

noncomputable section

namespace Cert.Ffn

open Idealize.ShloMosaic

/-- The constants as the programs write them: a row's length, the norm's epsilon, one half and minus one half. -/
def len : EReal := Ideal.ofBits .f32 0x44800000#32
def eps : EReal := Ideal.ofBits .f32 0x358637BD#32
def half : EReal := Ideal.ofBits .f32 0x3F000000#32
def negHalf : EReal := Ideal.ofBits .f32 0xBF000000#32

theorem len_eq : len = ((1024 : ℝ) : EReal) := by
  unfold len; simp [Ideal.ofBits, Ideal.ieee]; rw [← EReal.coe_mul]; norm_num

theorem negHalf_eq : negHalf = ((-(1 / 2) : ℝ) : EReal) := by
  unfold negHalf; simp [Ideal.ofBits, Ideal.ieee]; rw [← EReal.coe_mul]; norm_num

theorem half_eq : half = ((1 / 2 : ℝ) : EReal) := by
  unfold half; simp [Ideal.ofBits, Ideal.ieee]; rw [← EReal.coe_mul]; norm_num

/-- The epsilon is a positive real. -/
theorem eps_eq : ∃ e : ℝ, 0 < e ∧ eps = (e : EReal) := by
  unfold eps; simp [Ideal.ofBits, Ideal.ieee]
  refine ⟨_, ?_, (EReal.coe_mul _ _).symm⟩
  norm_num

/-- An extended real that is a real. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, by push_cast; rfl⟩
theorem IsReal.sub {x y : EReal} : IsReal x → IsReal y → IsReal (x - y) := by
  rintro ⟨a, rfl⟩ ⟨b, rfl⟩; exact ⟨a - b, by push_cast; rfl⟩
theorem IsReal.mul {x y : EReal} : IsReal x → IsReal y → IsReal (x * y) := by
  rintro ⟨a, rfl⟩ ⟨b, rfl⟩; exact ⟨a * b, by push_cast; rfl⟩

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A quotient of reals by a real other than zero. -/
theorem div_real (x y : ℝ) (h : y ≠ 0) : Ideal.div (x : EReal) (y : EReal) = ((x / y : ℝ) : EReal) := by
  rw [Ideal.div_coe h, ← EReal.coe_mul, mul_one_div]

/-- The reciprocal root of a row's mean square plus epsilon. -/
def rstd (x : Fin 1024 → EReal) : EReal := Ideal.rsqrt (Ideal.div (∑ k, x k * x k) len + eps)
/-- The row divided by the root of its mean square. -/
def unitRow (x : Fin 1024 → EReal) (k : Fin 1024) : EReal := x k * rstd x
/-- The row's norm, scaled. -/
def normed (x g : Fin 1024 → EReal) (k : Fin 1024) : EReal := unitRow x k * g k

/-- The mean square plus epsilon is a positive real `s`, and the reciprocal root is that of `s`. -/
theorem rstd_real (x : Fin 1024 → ℝ) : ∃ s : ℝ, 0 < s ∧
    Ideal.div (∑ k, (x k : EReal) * (x k : EReal)) len + eps = (s : EReal) ∧ rstd (fun k => x k) = (((Real.sqrt s)⁻¹ : ℝ) : EReal) := by
  obtain ⟨e, he, ee⟩ := eps_eq
  have h : Ideal.div (∑ k, (x k : EReal) * (x k : EReal)) len + eps = (((∑ k, x k * x k) / 1024 + e : ℝ) : EReal) := by
    have h' : (∑ k, (x k : EReal) * (x k : EReal)) = ((∑ k, x k * x k : ℝ) : EReal) := by
      rw [coe_sum]; exact Finset.sum_congr rfl fun k _ => (EReal.coe_mul _ _).symm
    rw [h', len_eq, ee, div_real _ _ (by norm_num), ← EReal.coe_add]
  have pos : 0 < (∑ k, x k * x k) / 1024 + e :=
    add_pos_of_nonneg_of_pos (div_nonneg (Finset.sum_nonneg fun k _ => mul_self_nonneg _) (by norm_num)) he
  refine ⟨_, pos, h, ?_⟩
  unfold rstd
  rw [h, Ideal.rsqrt_coe, if_neg (not_lt.mpr pos.le), if_neg pos.ne']

theorem rstd_isReal {x : Fin 1024 → EReal} (hx : ∀ k, IsReal (x k)) : IsReal (rstd x) := by
  choose y hy using hx
  obtain ⟨s, _, _, h⟩ := rstd_real y
  exact ⟨_, by rw [show x = fun k => (y k : EReal) from funext hy, h]⟩

theorem normed_isReal {x g : Fin 1024 → EReal} (hx : ∀ k, IsReal (x k)) (hg : ∀ k, IsReal (g k)) (k : Fin 1024) :
    IsReal (normed x g k) := ((hx k).mul (rstd_isReal hx)).mul (hg k)

/-- The logistic function. -/
def logistic (a : EReal) : EReal := Ideal.div 1 (1 + Ideal.exp (0 - a))
def silu (a : EReal) : EReal := a * logistic a

theorem logistic_real (a : ℝ) : logistic a = ((1 / (1 + Real.exp (-a)) : ℝ) : EReal) := by
  have h : (1 : EReal) + Ideal.exp (0 - (a : EReal)) = ((1 + Real.exp (-a) : ℝ) : EReal) := by
    rw [zero_sub, ← EReal.coe_neg, Ideal.exp_coe]; push_cast; rfl
  rw [logistic, h, ← EReal.coe_one, div_real _ _ (by positivity)]

theorem logistic_isReal {a : EReal} : IsReal a → IsReal (logistic a) := by rintro ⟨a, rfl⟩; exact ⟨_, logistic_real a⟩

/-- The gradient of `silu a * b` at `a`, the gradient at the product being `u`: as the kernel writes it. -/
def gradA (u a b : EReal) : EReal := u * b * (logistic a + silu a * (1 - logistic a))
/-- The gradient of `silu a * b` at `b`. -/
def gradB (u a : EReal) : EReal := u * silu a

/-- As differentiation writes it, the product rule over the factors of `a * logistic a`. -/
theorem gradA_eq {u a b : EReal} (hu : IsReal u) (ha : IsReal a) (hb : IsReal b) :
    u * b * logistic a + a * (u * b) * (logistic a * (1 - logistic a)) = gradA u a b := by
  obtain ⟨s, hs⟩ := logistic_isReal ha
  obtain ⟨u, rfl⟩ := hu
  obtain ⟨a, rfl⟩ := ha
  obtain ⟨b, rfl⟩ := hb
  unfold gradA silu
  rw [hs]
  have : (1 : EReal) = ((1 : ℝ) : EReal) := rfl
  rw [this]
  norm_cast
  ring

theorem gradA_isReal {u a b : EReal} (hu : IsReal u) (ha : IsReal a) (hb : IsReal b) : IsReal (gradA u a b) :=
  (hu.mul hb).mul ((logistic_isReal ha).add ((ha.mul (logistic_isReal ha)).mul ((IsReal.coe 1).sub (logistic_isReal ha))))

theorem gradB_isReal {u a : EReal} (hu : IsReal u) (ha : IsReal a) : IsReal (gradB u a) := hu.mul (ha.mul (logistic_isReal ha))

/-- The norm's gradient at the row, the gradient at the norm being `t`: as the kernel writes it. -/
def gradX (x g t : Fin 1024 → EReal) (k : Fin 1024) : EReal :=
  rstd x * (t k * g k - unitRow x k * Ideal.div (∑ j, t j * g j * unitRow x j) len)

/-- As differentiation writes it: through the row, and through the reciprocal root, whose derivative is minus half the
    root over its argument, through the mean of the squares, both factors of each. -/
theorem gradX_eq {x g t : Fin 1024 → EReal} (d : EReal) (hx : ∀ k, IsReal (x k)) (hg : ∀ k, IsReal (g k))
    (ht : ∀ k, IsReal (t k)) (k : Fin 1024) :
    d + t k * g k * rstd x
      + x k * Ideal.div ((∑ j, x j * (t j * g j)) * (negHalf * Ideal.div (rstd x) (Ideal.div (∑ j, x j * x j) len + eps))) len
      + Ideal.div ((∑ j, x j * (t j * g j)) * (negHalf * Ideal.div (rstd x) (Ideal.div (∑ j, x j * x j) len + eps))) len * x k
    = d + gradX x g t k := by
  choose x' hx using hx
  choose g' hg using hg
  choose t' ht using ht
  obtain rfl : x = fun k => (x' k : EReal) := funext hx
  obtain rfl : g = fun k => (g' k : EReal) := funext hg
  obtain rfl : t = fun k => (t' k : EReal) := funext ht
  obtain ⟨s, pos, hs, hr⟩ := rstd_real x'
  rw [add_assoc, add_assoc]
  congr 1
  unfold gradX unitRow
  rw [hr, hs, len_eq, negHalf_eq]
  have root : Real.sqrt s * Real.sqrt s = s := Real.mul_self_sqrt pos.le
  have rpos : 0 < Real.sqrt s := Real.sqrt_pos.mpr pos
  rw [show (∑ j, (x' j : EReal) * ((t' j : EReal) * (g' j : EReal))) = ((∑ j, x' j * (t' j * g' j) : ℝ) : EReal) by
      rw [coe_sum]; exact Finset.sum_congr rfl fun k _ => by push_cast; rfl,
    show (∑ j, (t' j : EReal) * (g' j : EReal) * ((x' j : EReal) * (((Real.sqrt s)⁻¹ : ℝ) : EReal)))
        = ((∑ j, t' j * g' j * (x' j * (Real.sqrt s)⁻¹) : ℝ) : EReal) by
      rw [coe_sum]; exact Finset.sum_congr rfl fun k _ => by push_cast; rfl,
    div_real _ _ pos.ne']
  rw [show (∑ j, t' j * g' j * (x' j * (Real.sqrt s)⁻¹)) = (∑ j, x' j * (t' j * g' j)) * (Real.sqrt s)⁻¹ by
    rw [Finset.sum_mul]; exact Finset.sum_congr rfl fun k _ => by ring]
  rw [← EReal.coe_mul (-(1 / 2)), ← EReal.coe_mul (∑ j, x' j * (t' j * g' j)), div_real _ _ (by norm_num), div_real _ _ (by norm_num)]
  generalize (∑ j, x' j * (t' j * g' j)) = S
  have e : t' k * g' k * (Real.sqrt s)⁻¹ + (x' k * (S * (-(1 / 2) * ((Real.sqrt s)⁻¹ / s)) / 1024)
        + S * (-(1 / 2) * ((Real.sqrt s)⁻¹ / s)) / 1024 * x' k)
      = (Real.sqrt s)⁻¹ * (t' k * g' k - x' k * (Real.sqrt s)⁻¹ * (S * (Real.sqrt s)⁻¹ / 1024)) := by
    generalize Real.sqrt s = q at *
    subst root
    field_simp
    ring
  simpa only [EReal.coe_add, EReal.coe_mul, EReal.coe_sub] using congrArg ((↑) : ℝ → EReal) e

/-- The gradient at one element of the gated unit's product, from a row `d` of the gradient at the result and the
    element's row `w` of the down weight. -/
def back (d w : Fin 1024 → EReal) : EReal := ∑ k, half * d k * w k

theorem back_isReal {d w : Fin 1024 → EReal} (hd : ∀ k, IsReal (d k)) (hw : ∀ k, IsReal (w k)) : IsReal (back d w) :=
  IsReal.sum _ fun k => (IsReal.mul ⟨_, half_eq⟩ (hd k)).mul (hw k)

/-- The gated unit's product, from a row `p` of the first product: its two halves gate and are gated. -/
def actRow (p : Fin 5632 → EReal) (n : Fin 2816) : EReal := silu (p ⟨n, by omega⟩) * p ⟨2816 + n, by omega⟩

/-- The gradient at the row `p` of the first product. -/
def dabRow (p : Fin 5632 → EReal) (d : Fin 1024 → EReal) (D : Fin 2816 → Fin 1024 → EReal) (n : Fin 5632) : EReal :=
  if h : n.val < 2816 then gradA (back d (D ⟨n, h⟩)) (p n) (p ⟨2816 + n, by omega⟩)
  else gradB (back d (D ⟨n - 2816, by omega⟩)) (p ⟨n - 2816, by omega⟩)

theorem dabRow_isReal {p : Fin 5632 → EReal} {d : Fin 1024 → EReal} {D : Fin 2816 → Fin 1024 → EReal}
    (hp : ∀ n, IsReal (p n)) (hd : ∀ k, IsReal (d k)) (hD : ∀ n k, IsReal (D n k)) (n : Fin 5632) :
    IsReal (dabRow p d D n) := by
  unfold dabRow
  split
  · exact gradA_isReal (back_isReal hd (hD _)) (hp _) (hp _)
  · exact gradB_isReal (back_isReal hd (hD _)) (hp _)

theorem dabRow_lo (p : Fin 5632 → EReal) (d : Fin 1024 → EReal) (D : Fin 2816 → Fin 1024 → EReal) (n : Fin 5632)
    (i : Fin 2816) (j : Fin 5632) (hi : n.val = i) (hj : j.val = 2816 + i) :
    dabRow p d D n = gradA (back d (D i)) (p n) (p j) := by
  exact (dif_pos (show n.val < 2816 by omega)).trans (congrArg₂ (fun i j => gradA (back d (D i)) (p n) (p j))
    (Fin.ext hi) (Fin.ext (by simp only; omega)))

theorem dabRow_hi (p : Fin 5632 → EReal) (d : Fin 1024 → EReal) (D : Fin 2816 → Fin 1024 → EReal) (n : Fin 5632)
    (i : Fin 2816) (j : Fin 5632) (hi : n.val = 2816 + i) (hj : j.val = i) :
    dabRow p d D n = gradB (back d (D i)) (p j) := by
  exact (dif_neg (show ¬n.val < 2816 by omega)).trans (congrArg₂ (fun i j => gradB (back d (D i)) (p j))
    (Fin.ext (by simp only; omega)) (Fin.ext (by simp only; omega)))

/-- The gradient at the norm, `W` holding the first product's weight. -/
def tanRow (p : Fin 5632 → EReal) (d : Fin 1024 → EReal) (D : Fin 2816 → Fin 1024 → EReal) (W : Fin 5632 → Fin 1024 → EReal)
    (k : Fin 1024) : EReal := ∑ n, dabRow p d D n * W n k

/-- A sum over the first product's row, in the kernel's order: the two halves' first parts, then their rests. -/
theorem sum_chunks (f : Fin 5632 → EReal) : ∑ n, f n =
    (∑ n : Fin 1536, f ⟨n, by omega⟩) + (∑ n : Fin 1536, f ⟨2816 + n, by omega⟩)
      + (∑ n : Fin 1280, f ⟨1536 + n, by omega⟩) + ∑ n : Fin 1280, f ⟨4352 + n, by omega⟩ := by
  have e1 := Fin.sum_univ_add (a := 2816) (b := 2816) f
  have e2 := Fin.sum_univ_add (a := 1536) (b := 1280) fun n => f (Fin.castAdd 2816 n)
  have e3 := Fin.sum_univ_add (a := 1536) (b := 1280) fun n => f (Fin.natAdd 2816 n)
  refine e1.trans ?_
  refine (congrArg₂ (· + ·) e2 e3).trans ?_
  refine (add_add_add_comm _ _ _ _).trans ?_
  rw [← add_assoc]
  refine congrArg₂ (· + ·) (congrArg₂ (· + ·) rfl (Finset.sum_congr rfl fun n _ => congrArg f (Fin.ext ?_))) ?_
  · rfl
  · exact Finset.sum_congr rfl fun n _ => congrArg f (Fin.ext (by simp only [Fin.val_natAdd]; omega))

end Cert.Ffn

end
-- ==== Proof.Ffn.Finite.lean ====
/- What the precondition of the feed-forward gradient says: every element of every argument is a real. -/
module

public import proofs.«01_k».proof.Pre_finite2
public import proofs.«01_k».proof.Proof.Ffn.Row
public import Idealize.ShloMosaic.Lib.ReduceAll
public import Idealize.ShloMosaic.Lib.Affine
public import Idealize.ShloMosaic.Lib.Pointwise
public import Idealize.ShloMosaic.Lib.Tactic

@[expose] public section

set_option maxRecDepth 16384

noncomputable section

namespace Cert.Pre_finite2

open Idealize.ShloMosaic Idealize.ShloMosaic.Tactic Cert.Ffn

/-- The side conditions that the precondition's operations take. -/
instance facts : Facts where
  bcast_S_S8448x1024 := by decide
  reducesTo_S8448x1024_S_d0_1 := by decide
  h_S_ := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide

instance : Subsingleton S_.Idx := ⟨fun a b => funext fun x => x.elim0⟩

theorem inf_eq : Ideal.ofBits .f32 0x7F800000#32 = (⊤ : EReal) := by simp [Ideal.ofBits, Ideal.ieee]

/-- An extended real of absolute value below infinity is a real. -/
theorem isReal_of_abs {x : EReal} (e : Ideal.cmp .olt (max x (-x)) (Ideal.ofBits .f32 0x7F800000#32) = 1#1) : IsReal x := by
  rw [inf_eq] at e
  have lt : max x (-x) < ⊤ := by
    by_contra no
    exact absurd e (by simp only [Ideal.cmp, no]; decide)
  induction x with
  | bot => exact absurd lt (by simp)
  | top => exact absurd lt (by simp)
  | coe r => exact ⟨r, rfl⟩

/-- An array that the precondition's test accepts holds reals. -/
theorem isReal_of_all {s : Shape} {axes : List (Fin s.rank)} (x : FVec Ideal s .f32) (init : IVec S_ 1)
    (hb : S_.BroadcastsInDim s (![] : Fin 0 → Fin s.rank)) (hr : s.ReducesTo axes S_) (hu : 0 < S_.numel) (o : S_.Idx)
    (e : Host.reduce IntOp.andi (cmpf .olt (Host.absf x) (broadcastInDim s ![] hb (constant S_ .f32 0x7F800000#32))) init hr hu o = 1#1)
    (j : s.Idx) : IsReal (x j) :=
  isReal_of_abs (Host.reduce_andi_all _ _ _ _ _ e j)

theorem finite (h : FVec Ideal S8448x1024 .f32) (g : FVec Ideal S1x1024 .f32) (W : FVec Ideal S1024x5632 .f32)
    (D : FVec Ideal S2816x1024 .f32) (d : FVec Ideal S8448x1024 .f32) (e : fn h g W D d = fun _ => 1#1) :
    (∀ j, IsReal (h j)) ∧ (∀ j, IsReal (g j)) ∧ (∀ j, IsReal (W j)) ∧ (∀ j, IsReal (D j)) ∧ (∀ j, IsReal (d j)) := by
  have e := congrFun e (fun x => x.elim0)
  dsimp only [fn, fn_part1] at e
  simp only [andi, IntOp.andi_eq_one] at e
  obtain ⟨⟨⟨⟨eh, eg⟩, eW⟩, eD⟩, ed⟩ := e
  exact ⟨isReal_of_all _ _ _ _ _ _ eh, isReal_of_all _ _ _ _ _ _ eg, isReal_of_all _ _ _ _ _ _ eW,
    isReal_of_all _ _ _ _ _ _ eD, isReal_of_all _ _ _ _ _ _ ed⟩

end Cert.Pre_finite2
-- ==== Proof.Ffn.Pay.lean ====
/- What one grid point of the FFN gradient computes, element by element, in terms of the functions of a row. -/
module

public import proofs.«01_k».proof.Proof.Gen.Kernel2Ideal.Value
public import proofs.«01_k».proof.Proof.Ffn.Row
public import Idealize.ShloMosaic.Lib.Pipeline.ValueKit
public import Idealize.ShloMosaic.Lib.Pointwise
public import Idealize.ShloMosaic.Lib.Tactic

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

theorem pay6 (x : Vec Ideal S384x1024 .f32) (g : Vec Ideal S1x1024 .f32) (j : S384x1024.Idx) :
    k0_pay6 x g j = normed (fun k => x (ix2 (j 0) k)) (fun k => g (ix2 0 k)) (j 1) := by
  idx_vars j
  pointwise [k0_pay6, k0_pay5, k0_pay4, normed, unitRow, rstd, len, eps]

theorem pay13 (a b : Vec Ideal S384x1536 .bf16) (j : S384x1536.Idx) : k0_pay13 a b j = silu (a j) * b j := by
  idx_vars j
  pointwise [k0_pay13, k0_pay12, k0_pay10, k0_pay11, k0_pay9, silu, Ffn.logistic]

theorem pay24 (a b : Vec Ideal S384x1280 .bf16) (j : S384x1280.Idx) :
    k0_pay24 (k0_pay18 a) (k0_pay19 b) (k0_pay20 a) k0_pay21 j = silu (a j) * b j := by
  idx_vars j
  pointwise [k0_pay24, k0_pay23, k0_pay22, k0_pay21, k0_pay20, k0_pay19, k0_pay18, silu, Ffn.logistic]

theorem pay15 (d : Vec Ideal S384x1024 .f32) (a b : Vec Ideal S384x1536 .bf16) (w : Vec Ideal S1536x1024 .bf16)
    (j : S384x1536.Idx) : k0_pay15 (k0_pay7 d) (k0_pay10 b) (k0_pay11 a) (k0_pay12 a) w j
      = gradA (back (fun k => d (ix2 (j 0) k)) (fun k => w (ix2 (j 1) k))) (a j) (b j) := by
  idx_vars j
  pointwise [k0_pay15, k0_pay14, k0_pay7, k0_pay12, k0_pay10, k0_pay11, k0_pay9, gradA, silu, Ffn.logistic, back, half]

theorem pay16 (d : Vec Ideal S384x1024 .f32) (a : Vec Ideal S384x1536 .bf16) (w : Vec Ideal S1536x1024 .bf16)
    (j : S384x1536.Idx) : k0_pay16 (k0_pay7 d) (k0_pay12 a) w j
      = gradB (back (fun k => d (ix2 (j 0) k)) (fun k => w (ix2 (j 1) k))) (a j) := by
  idx_vars j
  pointwise [k0_pay16, k0_pay14, k0_pay7, k0_pay12, k0_pay11, k0_pay9, gradB, silu, Ffn.logistic, back, half]

theorem pay26 (d : Vec Ideal S384x1024 .f32) (a b : Vec Ideal S384x1280 .bf16) (w : Vec Ideal S1280x1024 .bf16)
    (j : S384x1280.Idx) : k0_pay26 (k0_pay7 d) (k0_pay18 a) (k0_pay19 b) (k0_pay20 a) k0_pay21 w j
      = gradA (back (fun k => d (ix2 (j 0) k)) (fun k => w (ix2 (j 1) k))) (a j) (b j) := by
  idx_vars j
  pointwise [k0_pay26, k0_pay25, k0_pay23, k0_pay22, k0_pay21, k0_pay20, k0_pay19, k0_pay18, k0_pay7, gradA, silu, Ffn.logistic, back,
    half]

theorem pay27 (d : Vec Ideal S384x1024 .f32) (a : Vec Ideal S384x1280 .bf16) (w : Vec Ideal S1280x1024 .bf16)
    (j : S384x1280.Idx) : k0_pay27 (k0_pay7 d) (k0_pay18 a) (k0_pay20 a) k0_pay21 w j
      = gradB (back (fun k => d (ix2 (j 0) k)) (fun k => w (ix2 (j 1) k))) (a j) := by
  idx_vars j
  pointwise [k0_pay27, k0_pay25, k0_pay23, k0_pay22, k0_pay21, k0_pay20, k0_pay18, k0_pay7, gradB, silu, Ffn.logistic, back, half]

theorem pay8 (j : S384x1024.Idx) : k0_pay8 (F := Ideal) j = (0 : EReal) := by
  pointwise [k0_pay8]

/-- The first chunk's part of the gradient at the norm. -/
theorem pay17 (q : FVec Ideal S384x1024 .bf16) (z : FVec Ideal S384x1024 .f32) (b s l : FVec Ideal S384x1536 .f32)
    (w : Vec Ideal S1536x1024 .bf16) (u v : Vec Ideal S1536x1024 .bf16) (j : S384x1024.Idx) :
    k0_pay17 q z b s l w u v j = z j + (∑ n, k0_pay15 q b s l w (ix2 (j 0) n) * u (ix2 n (j 1)) : EReal)
      + (∑ n, k0_pay16 q l w (ix2 (j 0) n) * v (ix2 n (j 1)) : EReal) := by
  idx_vars j
  pointwise [k0_pay17]

theorem pay28 (q : FVec Ideal S384x1024 .bf16) (z : FVec Ideal S384x1024 .f32) (a b s l : FVec Ideal S384x1280 .f32)
    (w : Vec Ideal S1280x1024 .bf16) (u v : Vec Ideal S1280x1024 .bf16) (j : S384x1024.Idx) :
    k0_pay28 q z a b s l w u v j = z j + (∑ n, k0_pay26 q a b s l w (ix2 (j 0) n) * u (ix2 n (j 1)) : EReal)
      + (∑ n, k0_pay27 q a s l w (ix2 (j 0) n) * v (ix2 n (j 1)) : EReal) := by
  idx_vars j
  pointwise [k0_pay28]

theorem pay29 (x : Vec Ideal S384x1024 .f32) (g : Vec Ideal S1x1024 .f32) (q : FVec Ideal S384x1024 .bf16)
    (z : FVec Ideal S384x1024 .f32) (a b s l : FVec Ideal S384x1280 .f32)
    (w : Vec Ideal S1280x1024 .bf16) (u v : Vec Ideal S1280x1024 .bf16) (j : S384x1024.Idx) :
    k0_pay29 g (k0_pay4 x) (k0_pay5 x) q z a b s l w u v j
      = gradX (fun k => x (ix2 (j 0) k)) (fun k => g (ix2 0 k)) (fun k => k0_pay28 q z a b s l w u v (ix2 (j 0) k)) (j 1) := by
  idx_vars j
  pointwise [k0_pay29, k0_pay5, k0_pay4, gradX, unitRow, rstd, len, eps]

theorem pay2 (d p : Vec Ideal S384x1024 .f32) (j : S384x1024.Idx) : k0_pay2 d p j = d j + p j := by
  pointwise [k0_pay2]

theorem pay1 (x : Vec Ideal S384x1024 .f32) (t : FVec Ideal S384x1024 .f32) (j : S1x1024.Idx) :
    k0_pay1 (k0_pay5 x) t j = (∑ r : Fin 384, t (ix2 r (j 1)) * unitRow (fun k => x (ix2 r k)) (j 1) : EReal) := by
  idx_vars j
  pointwise [k0_pay1, k0_pay5, k0_pay4, unitRow, rstd, len, eps]

theorem pay3 (y t : FVec Ideal S384x1024 .f32) (z : Vec Ideal S1x1024 .f32) (j : S1x1024.Idx) :
    k0_pay3 y t z j = z j + k0_pay1 y t j := by
  idx_vars j
  pointwise [k0_pay3]

end Cert.Kernel2Ideal.Ffn
-- ==== Proof.Ffn.Block.lean ====
/- What one grid point of the FFN gradient leaves in its five blocks. -/
module

public import proofs.«01_k».proof.Proof.Ffn.Pay

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

/-- A row of a matrix. -/
abbrev rowOf {a b : ℕ} {φ : EltTy} (x : Vec Ideal ⟨2, ![a, b]⟩ φ) (r : Fin a) (k : Fin b) : Elt Ideal φ := x (ix2 r k)

section
variable (x : Vec Ideal S384x1024 .f32) (p : Vec Ideal S384x5632 .bf16) (d : Vec Ideal S384x1024 .f32)
  (g : Vec Ideal S1x1024 .f32) (W : Vec Ideal S5632x1024 .bf16) (D : Vec Ideal S2816x1024 .bf16)

/-- The gradient at the norm that a grid point forms out of its two chunks. -/
abbrev tangent : FVec Ideal S384x1024 .f32 :=
  k0_pay28 (k0_pay7 d)
        (k0_pay17 (k0_pay7 d) k0_pay8
          (k0_pay10 (View.ld p (Rect.unit ![0, 2816] ![384, 1536] inb_S384x5632_S384x1536_0_2816)))
          (k0_pay11 (View.ld p (Rect.unit ![0, 0] ![384, 1536] inb_S384x5632_S384x1536_0_0)))
          (k0_pay12 (View.ld p (Rect.unit ![0, 0] ![384, 1536] inb_S384x5632_S384x1536_0_0)))
          (View.ld D (Rect.unit ![0, 0] ![1536, 1024] inb_S2816x1024_S1536x1024_0_0))
          (View.ld W (Rect.unit ![0, 0] ![1536, 1024] inb_S5632x1024_S1536x1024_0_0))
          (View.ld W (Rect.unit ![2816, 0] ![1536, 1024] inb_S5632x1024_S1536x1024_2816_0)))
        (k0_pay18 (View.ld p (Rect.unit ![0, 1536] ![384, 1280] inb_S384x5632_S384x1280_0_1536)))
        (k0_pay19 (View.ld p (Rect.unit ![0, 4352] ![384, 1280] inb_S384x5632_S384x1280_0_4352)))
        (k0_pay20 (View.ld p (Rect.unit ![0, 1536] ![384, 1280] inb_S384x5632_S384x1280_0_1536))) k0_pay21
        (View.ld D (Rect.unit ![1536, 0] ![1280, 1024] inb_S2816x1024_S1280x1024_1536_0))
        (View.ld W (Rect.unit ![1536, 0] ![1280, 1024] inb_S5632x1024_S1280x1024_1536_0))
        (View.ld W (Rect.unit ![4352, 0] ![1280, 1024] inb_S5632x1024_S1280x1024_4352_0))

theorem tangent_apply (j : S384x1024.Idx) : tangent p d W D j
    = tanRow (rowOf p (j 0)) (rowOf d (j 0)) (rowOf D) (rowOf W) (j 1) := by
  rw [tangent, pay28, pay17]
  simp only [pay26, pay27, pay15, pay16]
  unfold tanRow
  rw [sum_chunks, pay8, zero_add]
  refine congrArg₂ (· + ·) (congrArg₂ (· + ·) (congrArg₂ (· + ·) ?_ ?_) ?_) ?_ <;> refine Finset.sum_congr rfl fun n _ => ?_
  · rw [dabRow_lo _ _ _ _ ⟨n, by omega⟩ ⟨2816 + n, by omega⟩ rfl rfl]
    pointwise [rowOf]
  · rw [dabRow_hi _ _ _ _ ⟨n, by omega⟩ ⟨n, by omega⟩ rfl rfl]
    pointwise [rowOf]
  · rw [dabRow_lo _ _ _ _ ⟨1536 + n, by omega⟩ ⟨4352 + n, by omega⟩ rfl (by simp only; omega)]
    pointwise [rowOf]
  · rw [dabRow_hi _ _ _ _ ⟨1536 + n, by omega⟩ ⟨1536 + n, by omega⟩ (by simp only; omega) rfl]
    pointwise [rowOf]

/-- The four stores into the block of the gradient at the first product. -/
theorem dab_apply (j : S384x5632.Idx) : View.canon (Val := Elt Ideal) (s := S384x5632) (e := .bf16)
      [⟨Rect.unit ![0, 4352] ![384, 1280] inb_S384x5632_S384x1280_0_4352,
          k0_pay27 (k0_pay7 d)
            (k0_pay18 (View.ld p (Rect.unit ![0, 1536] ![384, 1280] inb_S384x5632_S384x1280_0_1536)))
            (k0_pay20 (View.ld p (Rect.unit ![0, 1536] ![384, 1280] inb_S384x5632_S384x1280_0_1536)))
            k0_pay21 (View.ld D (Rect.unit ![1536, 0] ![1280, 1024] inb_S2816x1024_S1280x1024_1536_0))⟩,
        ⟨Rect.unit ![0, 1536] ![384, 1280] inb_S384x5632_S384x1280_0_1536,
          k0_pay26 (k0_pay7 d)
            (k0_pay18 (View.ld p (Rect.unit ![0, 1536] ![384, 1280] inb_S384x5632_S384x1280_0_1536)))
            (k0_pay19 (View.ld p (Rect.unit ![0, 4352] ![384, 1280] inb_S384x5632_S384x1280_0_4352)))
            (k0_pay20 (View.ld p (Rect.unit ![0, 1536] ![384, 1280] inb_S384x5632_S384x1280_0_1536)))
            k0_pay21 (View.ld D (Rect.unit ![1536, 0] ![1280, 1024] inb_S2816x1024_S1280x1024_1536_0))⟩,
        ⟨Rect.unit ![0, 2816] ![384, 1536] inb_S384x5632_S384x1536_0_2816,
          k0_pay16 (k0_pay7 d)
            (k0_pay12 (View.ld p (Rect.unit ![0, 0] ![384, 1536] inb_S384x5632_S384x1536_0_0)))
            (View.ld D (Rect.unit ![0, 0] ![1536, 1024] inb_S2816x1024_S1536x1024_0_0))⟩,
        ⟨Rect.unit ![0, 0] ![384, 1536] inb_S384x5632_S384x1536_0_0,
          k0_pay15 (k0_pay7 d)
            (k0_pay10 (View.ld p (Rect.unit ![0, 2816] ![384, 1536] inb_S384x5632_S384x1536_0_2816)))
            (k0_pay11 (View.ld p (Rect.unit ![0, 0] ![384, 1536] inb_S384x5632_S384x1536_0_0)))
            (k0_pay12 (View.ld p (Rect.unit ![0, 0] ![384, 1536] inb_S384x5632_S384x1536_0_0)))
            (View.ld D (Rect.unit ![0, 0] ![1536, 1024] inb_S2816x1024_S1536x1024_0_0))⟩]
      j = dabRow (rowOf p (j 0)) (rowOf d (j 0)) (rowOf D) (j 1) := by
  canon_tiles x hx using (View.cover_of_tiledBy _ ![384, 256] (by sl_kernel_rfl) _)
  · refine (pay27 _ _ _ _).trans (Eq.trans ?_ (dabRow_hi _ _ _ (j 1) ⟨1536 + (x 1).val, by omega⟩ ⟨1536 + (x 1).val, by omega⟩ (by simp only; omega) rfl).symm)
    have e0 : (j 0 : Fin 384) = x 0 := Fin.ext hx0
    have e1 : (j 1 : Fin 5632) = ⟨4352 + (x 1).val, by omega⟩ := Fin.ext (by simp only; omega)
    idx_vars x
    pointwise [rowOf, e0, e1]
  · refine (pay26 _ _ _ _ _).trans (Eq.trans ?_ (dabRow_lo _ _ _ (j 1) ⟨1536 + (x 1).val, by omega⟩ ⟨4352 + (x 1).val, by omega⟩ (by simp only; omega) (by simp only; omega)).symm)
    have e0 : (j 0 : Fin 384) = x 0 := Fin.ext hx0
    have e1 : (j 1 : Fin 5632) = ⟨1536 + (x 1).val, by omega⟩ := Fin.ext (by simp only; omega)
    idx_vars x
    pointwise [rowOf, e0, e1]
  · refine (pay16 _ _ _ _).trans (Eq.trans ?_ (dabRow_hi _ _ _ (j 1) ⟨(x 1).val, by omega⟩ ⟨(x 1).val, by omega⟩ (by simp only; omega) rfl).symm)
    have e0 : (j 0 : Fin 384) = x 0 := Fin.ext hx0
    have e1 : (j 1 : Fin 5632) = ⟨2816 + (x 1).val, by omega⟩ := Fin.ext (by simp only; omega)
    idx_vars x
    pointwise [rowOf, e0, e1]
  · refine (pay15 _ _ _ _ _).trans (Eq.trans ?_ (dabRow_lo _ _ _ (j 1) ⟨(x 1).val, by omega⟩ ⟨2816 + (x 1).val, by omega⟩ (by simp only; omega) rfl).symm)
    have e0 : (j 0 : Fin 384) = x 0 := Fin.ext hx0
    have e1 : (j 1 : Fin 5632) = ⟨0 + (x 1).val, by omega⟩ := Fin.ext (by simp only; omega)
    idx_vars x
    pointwise [rowOf, e0, e1]

/-- The two stores into the block of the activation. -/
theorem act_apply (j : S384x2816.Idx) :
    View.canon (Val := Elt Ideal) (s := S384x2816) (e := .bf16)
      [⟨Rect.unit ![0, 1536] ![384, 1280] inb_S384x2816_S384x1280_0_1536,
          k0_pay24 (k0_pay18 (View.ld p (Rect.unit ![0, 1536] ![384, 1280] inb_S384x5632_S384x1280_0_1536)))
            (k0_pay19 (View.ld p (Rect.unit ![0, 4352] ![384, 1280] inb_S384x5632_S384x1280_0_4352)))
            (k0_pay20 (View.ld p (Rect.unit ![0, 1536] ![384, 1280] inb_S384x5632_S384x1280_0_1536))) k0_pay21⟩,
        ⟨Rect.unit ![0, 0] ![384, 1536] inb_S384x2816_S384x1536_0_0,
          k0_pay13 (View.ld p (Rect.unit ![0, 0] ![384, 1536] inb_S384x5632_S384x1536_0_0))
            (View.ld p (Rect.unit ![0, 2816] ![384, 1536] inb_S384x5632_S384x1536_0_2816))⟩]
      j = actRow (rowOf p (j 0)) (j 1) := by
  canon_tiles x hx using (View.cover_of_tiledBy _ ![384, 256] (by sl_kernel_rfl) _)
  · refine (pay24 _ _ _).trans ?_
    have e0 : (j 0 : Fin 384) = x 0 := Fin.ext hx0
    have e1 : (j 1 : Fin 2816) = ⟨1536 + (x 1).val, by omega⟩ := Fin.ext (by simp only; omega)
    idx_vars x
    pointwise [rowOf, actRow, e0, e1]
    exact congrArg₂ (fun a b : EReal => a * b) rfl (congrArg (fun n => p (ix2 x0 n)) (Fin.ext (by simp only; omega)))
  · refine (pay13 _ _ _).trans ?_
    have e0 : (j 0 : Fin 384) = x 0 := Fin.ext hx0
    have e1 : (j 1 : Fin 2816) = ⟨0 + (x 1).val, by omega⟩ := Fin.ext (by simp only; omega)
    idx_vars x
    pointwise [rowOf, actRow, e0, e1]

end

variable (m : (ℓ : Loc nD τ sig) → Buf (Elt Ideal) ℓ)

/-- The blocks that a grid point reads: rows, the first product there, the gradient at the result, and the weights whole. -/
abbrev xB (c : Dev nD) (t : Fin cfg0.N) : Vec Ideal S384x1024 .f32 := iblk m c 0 t
abbrev pB (c : Dev nD) (t : Fin cfg0.N) : Vec Ideal S384x5632 .bf16 := iblk m c 1 t
abbrev dB (c : Dev nD) (t : Fin cfg0.N) : Vec Ideal S384x1024 .f32 := iblk m c 2 t
abbrev gB (c : Dev nD) (t : Fin cfg0.N) : Vec Ideal S1x1024 .f32 := iblk m c 3 t
abbrev WB (c : Dev nD) (t : Fin cfg0.N) : Vec Ideal S5632x1024 .bf16 := iblk m c 4 t
abbrev DB (c : Dev nD) (t : Fin cfg0.N) : Vec Ideal S2816x1024 .bf16 := iblk m c 5 t

/-- The gradient at the rows. -/
theorem out6 (c : Dev nD) (t : Fin cfg0.N) (j : S384x1024.Idx) : ((outsAt0 m c t.val t.isLt).1 j : EReal)
    = (dB m c t j : EReal) + gradX (rowOf (xB m c t) (j 0)) (rowOf (gB m c t) 0)
        (fun k => tanRow (rowOf (pB m c t) (j 0)) (rowOf (dB m c t) (j 0)) (rowOf (DB m c t)) (rowOf (WB m c t)) k) (j 1) := by
  have ht : t.val < 22 := t.isLt.trans_eq N_0
  by_cases h : t.val = 0
  · simp only [outsAt0_A m c t (by omega) (by omega)]
    frame_out
    rw [pay2, pay29]
    simp only [tangent_apply]
    rfl
  · simp only [outsAt0_B m c t (by omega) (by omega)]
    frame_out
    rw [pay2, pay29]
    simp only [tangent_apply]
    rfl

theorem out8 (c : Dev nD) (t : Fin cfg0.N) (j : S384x5632.Idx) : (outsAt0 m c t.val t.isLt).2.2.1 j
    = dabRow (rowOf (pB m c t) (j 0)) (rowOf (dB m c t) (j 0)) (rowOf (DB m c t)) (j 1) := by
  have ht : t.val < 22 := t.isLt.trans_eq N_0
  by_cases h : t.val = 0
  · simp only [outsAt0_A m c t (by omega) (by omega)]
    frame_out
    exact dab_apply _ _ _ j
  · simp only [outsAt0_B m c t (by omega) (by omega)]
    frame_out
    exact dab_apply _ _ _ j

/-- The norm of the rows. -/
theorem out7 (c : Dev nD) (t : Fin cfg0.N) (j : S384x1024.Idx) : (outsAt0 m c t.val t.isLt).2.1 j
    = normed (rowOf (xB m c t) (j 0)) (rowOf (gB m c t) 0) (j 1) := by
  have ht : t.val < 22 := t.isLt.trans_eq N_0
  by_cases h : t.val = 0
  · simp only [outsAt0_A m c t (by omega) (by omega)]
    frame_out
    exact pay6 _ _ j
  · simp only [outsAt0_B m c t (by omega) (by omega)]
    frame_out
    exact pay6 _ _ j

/-- The activation. -/
theorem out9 (c : Dev nD) (t : Fin cfg0.N) (j : S384x2816.Idx) : (outsAt0 m c t.val t.isLt).2.2.2.1 j
    = actRow (rowOf (pB m c t) (j 0)) (j 1) := by
  have ht : t.val < 22 := t.isLt.trans_eq N_0
  by_cases h : t.val = 0
  · simp only [outsAt0_A m c t (by omega) (by omega)]
    frame_out
    exact act_apply _ j
  · simp only [outsAt0_B m c t (by omega) (by omega)]
    frame_out
    exact act_apply _ j

/-- What the rows of a grid point add to the gradient of the norm's weight. -/
def scaleTerm (c : Dev nD) (t : Fin cfg0.N) (j : S1x1024.Idx) : EReal :=
  ∑ r : Fin 384, (tanRow (rowOf (pB m c t) r) (rowOf (dB m c t) r) (rowOf (DB m c t)) (rowOf (WB m c t)) (j 1) : EReal)
    * unitRow (rowOf (xB m c t) r) (j 1)

theorem out10_first (c : Dev nD) (t : Fin cfg0.N) (h : t.val % 22 = 0) (j : S1x1024.Idx) :
    (outsAt0 m c t.val t.isLt).2.2.2.2 j = scaleTerm m c t j := by
  have ht : t.val < 22 := t.isLt.trans_eq N_0
  simp only [outsAt0_A m c t (by omega) (by omega)]
  frame_out
  rw [pay1]
  simp only [tangent_apply]
  rfl

theorem out10_next (c : Dev nD) (t : Fin cfg0.N) (h : ¬ t.val % 22 = 0) (j : S1x1024.Idx) :
    ((outsAt0 m c t.val t.isLt).2.2.2.2 j : EReal)
      = ((outsAt0 m c (t.val - 1) (Nat.lt_of_le_of_lt (Nat.sub_le _ _) t.isLt)).2.2.2.2 j : EReal) + scaleTerm m c t j := by
  have ht : t.val < 22 := t.isLt.trans_eq N_0
  simp only [outsAt0_B m c t (by omega) (by omega)]
  frame_out
  rw [pay3, pay1]
  simp only [tangent_apply]
  rfl

end Cert.Kernel2Ideal.Ffn
-- ==== Proof.Ffn.Host.lean ====
/- The operands that the host prepares for the FFN gradient: the first product and the two weights. -/
module

public import proofs.«01_k».proof.Proof.Ffn.Block

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

variable (m : (ℓ : Loc nD τ sig) → Buf (Elt Ideal) ℓ) (c : Dev nD)

/-- The arguments: rows, the norm's weight, the two weights and the gradient at the result. -/
abbrev hA : Vec Ideal S8448x1024 .f32 := m ((c : Thread nD τ).loc main_arg0)
abbrev gA : Vec Ideal S1x1024 .f32 := m ((c : Thread nD τ).loc main_arg1)
abbrev WA : Vec Ideal S1024x5632 .f32 := m ((c : Thread nD τ).loc main_arg2)
abbrev DA : Vec Ideal S2816x1024 .f32 := m ((c : Thread nD τ).loc main_arg3)
abbrev dA : Vec Ideal S8448x1024 .f32 := m ((c : Thread nD τ).loc main_arg4)

/-- The first product of a row with the gate/up weight. -/
def firstRow (x g : Fin 1024 → EReal) (W : Fin 1024 → Fin 5632 → EReal) (n : Fin 5632) : EReal :=
  ∑ k, normed x g k * W k n

theorem host_p (j : S8448x5632.Idx) : (V m c (Pipeline.arrRef spec0 1) : Vec Ideal S8448x5632 .bf16) j
    = firstRow (rowOf (hA m c) (j 0)) (rowOf (gA m c) 0) (rowOf (WA m c)) (j 1) := by
  entry_read
  idx_vars j
  pointwise [firstRow, normed, unitRow, rstd, len, eps, rowOf]

theorem host_W (j : S5632x1024.Idx) : (V m c (Pipeline.arrRef spec0 4) : Vec Ideal S5632x1024 .bf16) j
    = WA m c (ix2 (j 1) (j 0)) := by
  entry_read
  idx_vars j
  pointwise

theorem host_D (j : S2816x1024.Idx) : (V m c (Pipeline.arrRef spec0 5) : Vec Ideal S2816x1024 .bf16) j
    = DA m c j := by
  entry_read
  pointwise

end Cert.Kernel2Ideal.Ffn
-- ==== Proof.Ffn.Array.lean ====
/- What the five arrays of the FFN gradient hold, as functions of the arguments. -/
module

public import proofs.«01_k».proof.Proof.Ffn.Host

@[expose] public section

set_option maxRecDepth 16384

noncomputable section

namespace Cert.Kernel2Ideal.Ffn

open Cert.Kernel2Ideal Cert.Kernel2Ideal.Gen Cert.Ffn
open Idealize.ShloMosaic Idealize.ShloMosaic.TcCoe Idealize.ShloMosaic.Tactic Idealize.SL.Sem

section
variable (h : Vec Ideal S8448x1024 .f32) (g : Vec Ideal S1x1024 .f32) (W : Vec Ideal S1024x5632 .f32)
  (D : Vec Ideal S2816x1024 .f32) (d : Vec Ideal S8448x1024 .f32)

/-- The first product at a row. -/
def firstAt (r : Fin 8448) : Fin 5632 → EReal := firstRow (rowOf h r) (rowOf g 0) (rowOf W)
/-- The gradient at the norm, at a row. -/
def tanAt (r : Fin 8448) : Fin 1024 → EReal :=
  tanRow (firstAt h g W r) (rowOf d r) (rowOf D) (fun n k => W (ix2 k n))

/-- The gradient at the rows, -/
def dhV : Vec Ideal S8448x1024 .f32 := fun j =>
  ((d j : EReal) + gradX (rowOf h (j 0)) (rowOf g 0) (tanAt h g W D d (j 0)) (j 1) : EReal)
/-- the norm of the rows, -/
def hnV : Vec Ideal S8448x1024 .bf16 := fun j => normed (rowOf h (j 0)) (rowOf g 0) (j 1)
/-- the gradient at the first product, -/
def dabV : Vec Ideal S8448x5632 .bf16 := fun j => dabRow (firstAt h g W (j 0)) (rowOf d (j 0)) (rowOf D) (j 1)
/-- the activation, -/
def actV : Vec Ideal S8448x2816 .bf16 := fun j => actRow (firstAt h g W (j 0)) (j 1)
/-- and the gradient at the norm's weight. -/
def dgV : Vec Ideal S1x1024 .f32 := fun j =>
  (∑ r : Fin 8448, (tanAt h g W D d r (j 1) : EReal) * unitRow (rowOf h r) (j 1) : EReal)

end

/-- Where each window lies at a grid point. -/
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![0, 0] := by decide +kernel

variable (m : (ℓ : Loc nD τ sig) → Buf (Elt Ideal) ℓ) (c : Dev nD)

/-- The row of the arrays that a row of a grid point's block is. -/
def rowAt (t : Fin cfg0.N) (r : Fin 384) : Fin 8448 := ⟨384 * t.val + r.val, by have := t.isLt.trans_eq N_0; omega⟩

theorem rows_x (t : Fin cfg0.N) (r : Fin 384) : rowOf (xB m c t) r = rowOf (hA m c) (rowAt t r) := by
  funext k
  show xB m c t (ix2 r k) = hA m c (ix2 (rowAt t r) k)
  unfold rowAt
  blk_ext [xB, iblk, V, idx0]

theorem rows_d (t : Fin cfg0.N) (r : Fin 384) : rowOf (dB m c t) r = rowOf (dA m c) (rowAt t r) := by
  funext k
  show dB m c t (ix2 r k) = dA m c (ix2 (rowAt t r) k)
  unfold rowAt
  blk_ext [dB, iblk, V, idx2]

theorem rows_g (t : Fin cfg0.N) : rowOf (gB m c t) 0 = rowOf (gA m c) 0 := by
  funext k
  show gB m c t (ix2 0 k) = gA m c (ix2 0 k)
  blk_ext [gB, iblk, V, idx3]

theorem rows_p (t : Fin cfg0.N) (r : Fin 384) : rowOf (pB m c t) r = firstAt (hA m c) (gA m c) (WA m c) (rowAt t r) := by
  funext n
  refine Eq.trans ?_ (host_p m c (ix2 (rowAt t r) n))
  show pB m c t (ix2 r n) = _
  unfold pB iblk rowAt
  generalize V m c (Pipeline.arrRef spec0 1) = a
  blk_ext [idx1]

theorem rows_W (t : Fin cfg0.N) : rowOf (WB m c t) = fun n k => WA m c (ix2 k n) := by
  funext n k
  refine Eq.trans ?_ (host_W m c (ix2 n k))
  show WB m c t (ix2 n k) = _
  unfold WB iblk
  generalize V m c (Pipeline.arrRef spec0 4) = a
  blk_ext [idx4]

theorem rows_D (t : Fin cfg0.N) : rowOf (DB m c t) = rowOf (DA m c) := by
  funext n k
  refine Eq.trans ?_ (host_D m c (ix2 n k))
  show DB m c t (ix2 n k) = _
  unfold DB iblk
  generalize V m c (Pipeline.arrRef spec0 5) = a
  blk_ext [idx5]

theorem at6 (t : Fin cfg0.N) (j : S384x1024.Idx) : (outsAt0 m c t.val t.isLt).1 j
    = dhV (hA m c) (gA m c) (WA m c) (DA m c) (dA m c) (ix2 (rowAt t (j 0)) (j 1)) := by
  refine (out6 m c t j).trans ?_
  idx_vars j
  show (dB m c t (ix2 j0 j1) : EReal) + gradX (rowOf (xB m c t) j0) (rowOf (gB m c t) 0)
    (fun k => tanRow (rowOf (pB m c t) j0) (rowOf (dB m c t) j0) (rowOf (DB m c t)) (rowOf (WB m c t)) k) j1 = _
  rw [rows_x, rows_d, rows_g, rows_p, rows_W, rows_D]
  refine congrArg₂ (fun a b : EReal => a + b) ?_ rfl
  refine Eq.trans ?_ (congrFun (rows_d m c t j0) j1)
  rfl

theorem at7 (t : Fin cfg0.N) (j : S384x1024.Idx) : (outsAt0 m c t.val t.isLt).2.1 j
    = hnV (hA m c) (gA m c) (ix2 (rowAt t (j 0)) (j 1)) := by
  refine (out7 m c t j).trans ?_
  idx_vars j
  show normed (rowOf (xB m c t) j0) (rowOf (gB m c t) 0) j1 = _
  rw [rows_x, rows_g]
  rfl

theorem at8 (t : Fin cfg0.N) (j : S384x5632.Idx) : (outsAt0 m c t.val t.isLt).2.2.1 j
    = dabV (hA m c) (gA m c) (WA m c) (DA m c) (dA m c) (ix2 (rowAt t (j 0)) (j 1)) := by
  refine (out8 m c t j).trans ?_
  idx_vars j
  show dabRow (rowOf (pB m c t) j0) (rowOf (dB m c t) j0) (rowOf (DB m c t)) j1 = _
  rw [rows_d, rows_p, rows_D]
  rfl

theorem at9 (t : Fin cfg0.N) (j : S384x2816.Idx) : (outsAt0 m c t.val t.isLt).2.2.2.1 j
    = actV (hA m c) (gA m c) (WA m c) (ix2 (rowAt t (j 0)) (j 1)) := by
  refine (out9 m c t j).trans ?_
  idx_vars j
  show actRow (rowOf (pB m c t) j0) j1 = _
  rw [rows_p]
  rfl

theorem at10 (t : Fin cfg0.N) (j : S1x1024.Idx) : scaleTerm m c t j
    = (∑ r : Fin 384, (tanAt (hA m c) (gA m c) (WA m c) (DA m c) (dA m c) (rowAt t r) (j 1) : EReal)
      * unitRow (rowOf (hA m c) (rowAt t r)) (j 1) : EReal) := by
  unfold scaleTerm
  refine Finset.sum_congr rfl fun r _ => ?_
  rw [rows_x, rows_d, rows_p, rows_W, rows_D]
  rfl

theorem final6 : (dats m 0 c).arrAt 6 cfg0.N = dhV (hA m c) (gA m c) (WA m c) (DA m c) (dA m c) := by
  refine (dats m 0 c).arrAt_eq_of_covers 6 _ (by decide +kernel) fun t hf y => ?_
  blk_simp
  rw [after0_6]
  refine (at6 m c t y).trans (congrArg _ ?_)
  unfold rowAt
  blk_ext [idx6]

theorem final7 : (dats m 0 c).arrAt 7 cfg0.N = hnV (hA m c) (gA m c) := by
  refine (dats m 0 c).arrAt_eq_of_covers 7 _ (by decide +kernel) fun t hf y => ?_
  blk_simp
  rw [after0_7]
  refine (at7 m c t y).trans (congrArg _ ?_)
  unfold rowAt
  blk_ext [idx7]

theorem final8 : (dats m 0 c).arrAt 8 cfg0.N = dabV (hA m c) (gA m c) (WA m c) (DA m c) (dA m c) := by
  refine (dats m 0 c).arrAt_eq_of_covers 8 _ (by decide +kernel) fun t hf y => ?_
  blk_simp
  rw [after0_8]
  refine (at8 m c t y).trans (congrArg _ ?_)
  unfold rowAt
  blk_ext [idx8]

theorem final9 : (dats m 0 c).arrAt 9 cfg0.N = actV (hA m c) (gA m c) (WA m c) := by
  refine (dats m 0 c).arrAt_eq_of_covers 9 _ (by decide +kernel) fun t hf y => ?_
  blk_simp
  rw [after0_9]
  refine (at9 m c t y).trans (congrArg _ ?_)
  unfold rowAt
  blk_ext [idx9]

theorem final10 : (dats m 0 c).arrAt 10 cfg0.N = dgV (hA m c) (gA m c) (WA m c) (DA m c) (dA m c) := by
  refine (dats m 0 c).arrAt_eq_of_after_last 10 (⟨21, by decide⟩ : Fin grid0.N) (by decide +kernel) _ fun j => ?_
  rw [after0_10]
  refine (Pipeline.eq_sum_fin_of_reset_step_apply_last (fun n h => (outsAt0 m c n h).2.2.2.2) 22 (fun _ => 0) (scaleTerm m c)
    (fun t h j => by rw [out10_first m c t h j, zero_add]) (fun t h j => out10_next m c t h j) (le_of_eq N_0)
    (⟨21, by decide⟩ : Fin grid0.N) rfl j).trans ?_
  rw [zero_add]
  simp only [at10]
  unfold dgV
  refine Fin.sum_mul_add_congr fun s k hl => ?_
  have e : rowAt s k = ⟨s.val * 384 + k.val, hl⟩ := Fin.ext (by unfold rowAt; simp only; omega)
  rw [e]
  rfl

end Cert.Kernel2Ideal.Ffn
-- ==== Proof.Ffn.Ref.lean ====
/- What differentiating the feed-forward block computes, element by element. -/
module

public import proofs.«01_k».proof.Proof.Ffn.Array
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Cert.Ffn
open Cert.Kernel2Ideal.Ffn (rowOf firstRow firstAt tanAt dhV hnV dabV actV dgV)
open Idealize.ShloMosaic Idealize.ShloMosaic.TcCoe Idealize.ShloMosaic.Tactic Idealize.SL.Sem

variable (h : Vec Ideal S8448x1024 .f32) (g : Vec Ideal S1x1024 .f32) (W : Vec Ideal S1024x5632 .f32)
  (D : Vec Ideal S2816x1024 .f32) (d : Vec Ideal S8448x1024 .f32)

/-- The first product, where the gradient is taken and where the gated unit is. -/
theorem first (r : Fin 8448) (n : Fin 5632) : val_main_v15 (F := Ideal) h g W (ix2 r n) = firstAt h g W r n := by
  pointwise [val_main_v15, val_main_v14, val_main_v13, val_main_v12, val_main_v11, val_main_v7, val_main_v6, val_main_v5, val_main_v4,
    val_main_v3, val_main_v2, val_main_v1, val_main_v0, val_main_cst, val_main_cst_0, val_main_cst_1,
    firstAt, firstRow, normed, unitRow, rstd, len, eps, rowOf]

theorem v16_at (r : Fin 8448) (n : Fin 2816) : val_main_v16 (F := Ideal) h g W (ix2 r n) = firstAt h g W r ⟨n.val, by omega⟩ := by
  rw [← first]
  pointwise [val_main_v16]

theorem v17_at (r : Fin 8448) (n : Fin 2816) : val_main_v17 (F := Ideal) h g W (ix2 r n) = firstAt h g W r ⟨2816 + n.val, by omega⟩ := by
  rw [← first]
  pointwise [val_main_v17]

theorem sig_at (r : Fin 8448) (n : Fin 2816) : val_main_v18_2 (F := Ideal) h g W (ix2 r n)
    = Ffn.logistic (firstAt h g W r ⟨n.val, by omega⟩) := by
  rw [← v16_at]
  pointwise [val_main_v18_2, val_main_call0_v0, val_main_call0_v1, val_main_call0_v2, val_main_call0_v3, val_main_call0_v4,
    val_main_call0_cst, val_main_call0_cst_0, Ffn.logistic]
  rw [zero_sub]

theorem dact_at (r : Fin 8448) (n : Fin 2816) : val_main_v27 (F := Ideal) D d (ix2 r n) = back (rowOf d r) (rowOf D n) := by
  pointwise [val_main_v27, val_main_v26, val_main_v25, val_main_v24, val_main_cst_4, back, half, rowOf]

theorem db_at (r : Fin 8448) (n : Fin 2816) : val_main_v28 (F := Ideal) h g W D d (ix2 r n)
    = gradB (back (rowOf d r) (rowOf D n)) (firstAt h g W r ⟨n.val, by omega⟩) := by
  rw [← dact_at, gradB, silu, ← sig_at, ← v16_at]
  pointwise [val_main_v28, val_main_v18_0]
  exact mul_comm (_ : EReal) _

/-- The gradient at the first product is formed twice. -/
theorem dact_again : val_main_v73 (F := Ideal) D d = val_main_v27 D d := by
  funext j
  idx_vars j
  rw [dact_at]
  pointwise [val_main_v73, val_main_v72, val_main_v71, val_main_v70, val_main_cst_12, back, half, rowOf]

theorem dab_again : val_main_v77 (F := Ideal) h g W D d = val_main_v31 h g W D d := by
  unfold val_main_v77 val_main_v76 val_main_v74 val_main_call3_v2 val_main_call3_v1 val_main_call3_v0 val_main_v75
  rw [dact_again]
  rfl

section
variable (hh : ∀ j, IsReal (h j)) (hg : ∀ j, IsReal (g j)) (hW : ∀ j, IsReal (W j)) (hD : ∀ j, IsReal (D j))
  (hd : ∀ j, IsReal (d j))

include hh hg hW in
theorem first_isReal (r : Fin 8448) (n : Fin 5632) : IsReal (firstAt h g W r n) := by
  unfold firstAt firstRow
  exact IsReal.sum _ fun k => (normed_isReal (fun k => hh _) (fun k => hg _) k).mul (hW _)

include hh hg hW hD hd

theorem da_at (r : Fin 8448) (n : Fin 2816) : val_main_v30 (F := Ideal) h g W D d (ix2 r n)
    = gradA (back (rowOf d r) (rowOf D n)) (firstAt h g W r ⟨n.val, by omega⟩) (firstAt h g W r ⟨2816 + n.val, by omega⟩) := by
  rw [← gradA_eq (back_isReal (fun k => hd _) (fun k => hD _)) (first_isReal h g W hh hg hW r _) (first_isReal h g W hh hg hW r _),
    ← dact_at, ← sig_at, ← v16_at, ← v17_at]
  pointwise [val_main_v30, val_main_call1_v0, val_main_call1_v1, val_main_call1_v2, val_main_v18_1, val_main_call0_v7, val_main_v29,
    val_main_call0_v6, val_main_call0_cst_1]

/-- The gradient at the first product, -/
theorem dab_at (r : Fin 8448) (n : Fin 5632) : val_main_v31 (F := Ideal) h g W D d (ix2 r n)
    = dabRow (firstAt h g W r) (rowOf d r) (rowOf D) n := by
  pointwise [val_main_v31]
  unfold dabRow
  split
  · exact da_at h g W D d hh hg hW hD hd r _
  · exact db_at h g W D d r _

theorem dab_isReal (r : Fin 8448) (n : Fin 5632) : IsReal (dabRow (firstAt h g W r) (rowOf d r) (rowOf D) n) :=
  dabRow_isReal (first_isReal h g W hh hg hW r) (fun _ => hd _) (fun _ _ => hD _) n

theorem tan_isReal (r : Fin 8448) (k : Fin 1024) : IsReal (tanAt h g W D d r k) := by
  unfold tanAt tanRow
  exact IsReal.sum _ fun n => (dab_isReal h g W D d hh hg hW hD hd r n).mul (hW _)

/-- at the norm, -/
theorem tan_at (r : Fin 8448) (k : Fin 1024) : val_main_v32 (F := Ideal) h g W D d (ix2 r k) = tanAt h g W D d r k := by
  unfold tanAt tanRow
  simp only [← dab_at h g W D d hh hg hW hD hd]
  pointwise [val_main_v32]

/-- at the rows, -/
theorem dh_eq : val_main_v52 (F := Ideal) h g W D d = dhV h g W D d := by
  funext j
  idx_vars j
  refine Eq.trans ?_ (gradX_eq (x := rowOf h j0) (g := rowOf g 0) (d (ix2 j0 j1)) (fun _ => hh _) (fun _ => hg _)
    (tan_isReal h g W D d hh hg hW hD hd j0) j1)
  simp only [← tan_at h g W D d hh hg hW hD hd]
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v10, val_main_v9, val_main_v8, val_main_v7, val_main_v6, val_main_v5, val_main_v4,
    val_main_v3, val_main_v2, val_main_v1, val_main_v0, val_main_cst, val_main_cst_0, val_main_cst_1, val_main_cst_2, val_main_cst_5,
    val_main_cst_6, val_main_cst_7, val_main_cst_8, rstd, len, eps, negHalf, rowOf]
  simp only [Fin.sum_univ_one]

/-- and at the norm's weight. -/
theorem dg_eq : val_main_v35 (F := Ideal) h g W D d = dgV h g W D d := by
  funext j
  idx_vars j
  show _ = (∑ r : Fin 8448, (tanAt h g W D d r j1 : EReal) * unitRow (rowOf h r) j1 : EReal)
  simp only [← tan_at h g W D d hh hg hW hD hd]
  pointwise [val_main_v35, val_main_v34, val_main_v33, val_main_v12, val_main_v11, val_main_v7, val_main_v6, val_main_v5, val_main_v4,
    val_main_v3, val_main_v2, val_main_v1, val_main_v0, val_main_cst, val_main_cst_0, val_main_cst_1, val_main_cst_5, unitRow, rstd, len, eps, rowOf]
  exact Finset.sum_congr rfl fun r _ => mul_comm (_ : EReal) _

theorem dab_eq : val_main_v79 (F := Ideal) h g W D d = dabV h g W D d := by
  funext j
  unfold val_main_v79
  rw [dab_again]
  idx_vars j
  refine Eq.trans ?_ (dab_at h g W D d hh hg hW hD hd j0 j1)
  pointwise []

end

theorem hn_eq : val_main_v78 (F := Ideal) h g = hnV h g := by
  funext j
  idx_vars j
  unfold hnV
  pointwise [val_main_v78, val_main_v64, val_main_v63, val_main_v62, val_main_v61, val_main_v60, val_main_v59, val_main_v58,
    val_main_v57, val_main_v56, val_main_v55, val_main_v54, val_main_v53, val_main_cst_9, val_main_cst_10, val_main_cst_11,
    normed, unitRow, rstd, len, eps, rowOf]

theorem act_eq : val_main_v80 (F := Ideal) h g W = actV h g W := by
  funext j
  idx_vars j
  refine Eq.trans (b := (val_main_v19 (F := Ideal) h g W (ix2 j0 j1) : EReal)) ?_ ?_
  · rfl
  unfold actV actRow silu
  simp only [← sig_at]
  pointwise [val_main_v19, val_main_v18_0, val_main_v17, val_main_v16]
  rw [sig_at, first, first]

end Cert.Reference2Ideal.Ffn
-- ==== Proof.Ffn.Wgu.lean ====
/- The product of two tall matrices over their common rows, `dabᵀ · hn`: what the array of the kernel holds, and that it
   is what the reference computes. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Tactic

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ)

/-- The part of the product that one grid point computes, at an element of its block. -/
def part (x0 : Vec Ideal S2816x1408 .bf16) (x1 : Vec Ideal S2816x1024 .bf16) (j : S1408x1024.Idx) : EReal :=
  ∑ k : Fin 2816, x0 (ix2 k (j 0)) * x1 (ix2 k (j 1))

theorem pay1 (x0 : Vec Ideal S2816x1408 .bf16) (x1 : Vec Ideal S2816x1024 .bf16) (j : S1408x1024.Idx) :
    k0_pay1 x0 x1 j = part x0 x1 j := by
  idx_vars j
  pointwise [k0_pay1, part]

theorem pay2 (x0 : Vec Ideal S2816x1408 .bf16) (x1 : Vec Ideal S2816x1024 .bf16) (z : Vec Ideal S1408x1024 .f32)
    (j : S1408x1024.Idx) : k0_pay2 x0 x1 z j = z j + part x0 x1 j := by
  rw [← pay1]
  idx_vars j
  pointwise [k0_pay2]

/-- Where each of the three windows lies at a grid point. -/
theorem idx0 : ∀ t : Fin grid0.N, win0_0.index t = ![t.val % 3, t.val / 3] := by decide +kernel
theorem idx1 : ∀ t : Fin grid0.N, win0_1.index t = ![t.val % 3, 0] := by decide +kernel
theorem idx2 : ∀ t : Fin grid0.N, win0_2.index t = ![t.val / 3, 0] := by decide +kernel

/-- The product over the rows, as contents of the array. -/
def prod (a : Vec Ideal S8448x5632 .bf16) (b : Vec Ideal S8448x1024 .bf16) : Vec Ideal S5632x1024 .f32 := fun j =>
  (∑ k : Fin 8448, (a (ix2 k (j 0)) : EReal) * (b (ix2 k (j 1)) : EReal) : EReal)

/-- The kernel's array ends holding the product, each element the sum over all the rows. -/
theorem final (c : Dev nD) : (dats m 0 c).arrAt 2 cfg0.N =
    prod (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by rw [outsAt0_A m c t h (by omega)]; frame_out; rw [pay1, zero_add])
    (fun t h j => by rw [outsAt0_B m c t h (by omega)]; frame_out; rw [pay2]) t ((flush0_2 t).mp hf) y, zero_add]
  unfold part prod
  refine Fin.sum_mul_add_congr fun s k hl => ?_
  congr 1 <;> blk_ext [iblk, V, idx0, idx1, idx2]

/-- The reference computes the same product. -/
theorem reference (a : Vec Ideal S8448x5632 .bf16) (b : Vec Ideal S8448x1024 .bf16) :
    Cert.Reference3Ideal.Read.val_main_v6 (F := Ideal) a b = prod a b := by
  funext j
  rw [Cert.Reference3Ideal.Read.val_main_v6_apply, Cert.Reference3Ideal.Read.val_main_v5_apply,
    Cert.Reference3Ideal.Read.val_main_v4_apply]
  idx_vars j
  unfold prod
  refine Finset.sum_congr rfl fun k _ => ?_
  rw [Cert.Reference3Ideal.Read.val_main_v3_apply, Cert.Reference3Ideal.Read.val_main_v1_apply]
  exact congrArg₂ (fun x y => (a x : EReal) * (b y : EReal)) (funext fun x => match x with | ⟨0, _⟩ => rfl | ⟨1, _⟩ => rfl)
    (funext fun x => match x with | ⟨0, _⟩ => rfl | ⟨1, _⟩ => rfl)

end Cert.Kernel3Ideal.Ffn
-- ==== Proof.Ffn.Wd.lean ====
/- The gradient of the down projection's weights, half of `actᵀ · dout`, laid out as eight bands of 352 rows: what the
   array of the kernel holds, and that it is what the reference computes. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Tactic

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

/-- Row `i1` of band `i0`, as a row of the whole product. -/
def row (i0 : Fin 8) (i1 : Fin 352) : Fin 2816 := ⟨352 * i0.val + i1.val, by omega⟩

/-- The part of the product that one grid point computes, at an element of its block. -/
def part (x0 : Vec Ideal S1408x2816 .bf16) (x1 : Vec Ideal S1408x512 .f32) (j : S8x352x512.Idx) : EReal :=
  ∑ k : Fin 1408, x0 (ix2 k (row (j 0) (j 1))) * (x1 (ix2 k (j 2)) * Ideal.ofBits .f32 0x3F000000#32)

/-- The product of a point's blocks, before it is cut into bands. -/
theorem pay3 (x0 : Vec Ideal S1408x2816 .bf16) (x1 : Vec Ideal S1408x512 .f32) (r : Fin 2816) (l : Fin 512) :
    k0_pay3 x1 x0 (ix2 r l) = (∑ k : Fin 1408, x0 (ix2 k r) * (x1 (ix2 k l) * Ideal.ofBits .f32 0x3F000000#32) : EReal) := by
  pointwise [k0_pay3]

/-- An element of a point's part, as an element of the product of its blocks. -/
theorem part_eq (x0 : Vec Ideal S1408x2816 .bf16) (x1 : Vec Ideal S1408x512 .f32) (i0 : Fin 8) (i1 : Fin 352)
    (i2 : Fin 512) : part x0 x1 (ix3 i0 i1 i2) = k0_pay3 x1 x0 (ix2 (row i0 i1) i2) :=
  (pay3 x0 x1 (row i0 i1) i2).symm

variable (c : Dev nD) (t : Fin cfg0.N) (j : S8x352x512.Idx)

/-- The first point of a run leaves its part of the product. -/
theorem first (h : t.val % 6 = 0) : outsAt0 m c t.val t.isLt j = part (iblk m c 0 t) (iblk m c 1 t) j := by
  rw [outsAt0_A m c t h (by omega) h (by omega) h (by omega) h (by omega) h (by omega) h (by omega) h (by omega) h (by omega)]
  frame_out
  generalize iblk m c 0 t = x0
  generalize iblk m c 1 t = x1
  idx_vars j
  rw [part_eq]
  canon_tiles x hx
  all_goals
    idx_vars x
    pointwise [k0_pay1, k0_pay2, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25]
    blk_ext [row]

/-- Each later point adds its part to what the point before left. -/
theorem later (h : ¬t.val % 6 = 0) : outsAt0 m c t.val t.isLt j =
    outsAt0 m c (t.val - 1) (Nat.lt_of_le_of_lt (Nat.sub_le _ _) t.isLt) j + part (iblk m c 0 t) (iblk m c 1 t) j := by
  rw [outsAt0_B m c t h (by omega) h (by omega) h (by omega) h (by omega) h (by omega) h (by omega) h (by omega) h (by omega)]
  frame_out
  generalize iblk m c 0 t = x0
  generalize iblk m c 1 t = x1
  generalize outsAt0 m c (t.val - 1) _ = z
  idx_vars j
  rw [part_eq]
  canon_tiles x hx
  all_goals
    idx_vars x
    pointwise [k0_pay1, k0_pay2, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25]
    congr 1 <;> blk_ext [row]

/-- Where each of the three windows lies at a grid point. -/
theorem idx0 : ∀ t : Fin grid0.N, win0_0.index t = ![t.val % 6, 0] := by decide +kernel
theorem idx1 : ∀ t : Fin grid0.N, win0_1.index t = ![t.val % 6, t.val / 6] := by decide +kernel
theorem idx2 : ∀ t : Fin grid0.N, win0_2.index t = ![0, 0, t.val / 6] := by decide +kernel

/-- Half of the product over the rows, in bands, as contents of the array. -/
def prod (a : Vec Ideal S8448x2816 .bf16) (d : Vec Ideal S8448x1024 .f32) : Vec Ideal S8x352x1024 .f32 := fun j =>
  (∑ k : Fin 8448, (a (ix2 k (row (j 0) (j 1))) : EReal) * ((d (ix2 k (j 2)) : EReal) * Ideal.ofBits .f32 0x3F000000#32) : EReal)

omit t j in
/-- The kernel's array ends holding that product. -/
theorem final : (dats m 0 c).arrAt 2 cfg0.N =
    prod (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 6 (fun _ => 0)
    (fun t j => part (iblk m c 0 t) (iblk m c 1 t) j)
    (fun t h j => by rw [first m c t j h, zero_add])
    (fun t h j => by rw [later m c t j h]) t ((flush0_2 t).mp hf) y, zero_add]
  unfold part prod
  refine Fin.sum_mul_add_congr fun s k hl => ?_
  congr 1
  · blk_ext [iblk, V, idx0, idx1, idx2, row]
  · congr 1
    blk_ext [iblk, V, idx0, idx1, idx2, row]

open Cert.Reference4Ideal.Read in
/-- The reference computes the same. -/
theorem reference (a : Vec Ideal S8448x2816 .bf16) (d : Vec Ideal S8448x1024 .f32) :
    val_main_v9 (F := Ideal) a d = prod a d := by
  funext j
  rw [val_main_v9_apply, val_main_v8_apply, val_main_v7_apply]
  idx_vars j
  unfold prod
  refine Finset.sum_congr rfl fun k _ => ?_
  rw [val_main_v6_apply, val_main_v5_apply, val_main_v1_apply, mul_comm]
  have e0 : ridx_main_v7 (idx_main_v8 (idx_main_v9 (ix3 j0 j1 j2))) k = ix2 k (row j0 j1) := funext fun x => match x with
    | ⟨0, _⟩ => rfl
    | ⟨1, _⟩ => Fin.ext (by show ((j0.val * 352 + j1.val) * 1024 + j2.val) / 1024 = 352 * j0.val + j1.val; omega)
  have e1 : lidx_main_v7 (idx_main_v8 (idx_main_v9 (ix3 j0 j1 j2))) k = ix2 k j2 := funext fun x => match x with
    | ⟨0, _⟩ => rfl
    | ⟨1, _⟩ => Fin.ext (by show ((j0.val * 352 + j1.val) * 1024 + j2.val) % 1024 = j2.val; omega)
  rw [e0, e1, val_main_cst_1_apply]
  exact congrArg (fun x => (a (ix2 k (row j0 j1)) : EReal) * x) (mul_comm _ _)

end Cert.Kernel4Ideal.Ffn
-- ==== Proof.Fwd.Pay.lean ====
/- What one grid point of the feed-forward block computes, element by element, in terms of the functions of a row. -/
module

public import proofs.«01_k».proof.Proof.Gen.Kernel5Ideal.Value
public import proofs.«01_k».proof.Proof.Ffn.Row
public import Idealize.ShloMosaic.Lib.Pipeline.ValueKit
public import Idealize.ShloMosaic.Lib.Pointwise
public import Idealize.ShloMosaic.Lib.Tactic

@[expose] public section

set_option maxRecDepth 16384

noncomputable section

namespace Cert.Kernel5Ideal.Fwd

open Cert.Kernel5Ideal Cert.Kernel5Ideal.Gen Cert.Ffn
open Idealize.ShloMosaic Idealize.ShloMosaic.TcCoe Idealize.ShloMosaic.Tactic Idealize.SL.Sem

/-- The product of a row's norm with a row `w` of the transposed gate/up weight. -/
def dotRow (x g w : Fin 1024 → EReal) : EReal := ∑ k, normed x g k * w k

theorem pay6 (x : Vec Ideal S384x1024 .f32) (g : Vec Ideal S1x1024 .f32) (j : S384x1024.Idx) :
    k0_pay6 x g j = normed (fun k => x (ix2 (j 0) k)) (fun k => g (ix2 0 k)) (j 1) := by
  idx_vars j
  pointwise [k0_pay6, normed, unitRow, rstd, len, eps]

theorem pay8 (x : Vec Ideal S384x1024 .f32) (g : Vec Ideal S1x1024 .f32) (w : Vec Ideal S1536x1024 .bf16) (j : S384x1536.Idx) :
    k0_pay8 x g w j = dotRow (fun k => x (ix2 (j 0) k)) (fun k => g (ix2 0 k)) (fun k => w (ix2 (j 1) k)) := by
  unfold dotRow
  idx_vars j
  have e := fun k => pay6 x g (ix2 j0 k)
  simp only [ix2] at e
  pointwise [k0_pay8, e]

theorem pay9 (x : Vec Ideal S384x1024 .f32) (g : Vec Ideal S1x1024 .f32) (w : Vec Ideal S1536x1024 .bf16) (j : S384x1536.Idx) :
    k0_pay9 x g w j = dotRow (fun k => x (ix2 (j 0) k)) (fun k => g (ix2 0 k)) (fun k => w (ix2 (j 1) k)) :=
  (show k0_pay9 x g w j = k0_pay8 x g w j from rfl).trans (pay8 x g w j)

theorem pay10 (x : Vec Ideal S384x1024 .f32) (g : Vec Ideal S1x1024 .f32) (w : Vec Ideal S1536x1024 .bf16) (j : S384x1536.Idx) :
    k0_pay10 x g w j = dotRow (fun k => x (ix2 (j 0) k)) (fun k => g (ix2 0 k)) (fun k => w (ix2 (j 1) k)) :=
  (show k0_pay10 x g w j = k0_pay8 x g w j from rfl).trans (pay8 x g w j)

theorem pay11 (x : Vec Ideal S384x1024 .f32) (g : Vec Ideal S1x1024 .f32) (w : Vec Ideal S1536x1024 .bf16) (j : S384x1536.Idx) :
    k0_pay11 x g w j = dotRow (fun k => x (ix2 (j 0) k)) (fun k => g (ix2 0 k)) (fun k => w (ix2 (j 1) k)) :=
  (show k0_pay11 x g w j = k0_pay8 x g w j from rfl).trans (pay8 x g w j)

theorem pay1 (x : Vec Ideal S384x1024 .f32) (g : Vec Ideal S1x1024 .f32) (w : Vec Ideal S1280x1024 .bf16) (j : S384x1280.Idx) :
    k0_pay1 (k0_pay6 x g) w j = dotRow (fun k => x (ix2 (j 0) k)) (fun k => g (ix2 0 k)) (fun k => w (ix2 (j 1) k)) := by
  unfold dotRow
  idx_vars j
  have e := fun k => pay6 x g (ix2 j0 k)
  simp only [ix2] at e
  pointwise [k0_pay1, e]

theorem pay2 (x : Vec Ideal S384x1024 .f32) (g : Vec Ideal S1x1024 .f32) (w : Vec Ideal S1280x1024 .bf16) (j : S384x1280.Idx) :
    k0_pay2 (k0_pay6 x g) w j = dotRow (fun k => x (ix2 (j 0) k)) (fun k => g (ix2 0 k)) (fun k => w (ix2 (j 1) k)) :=
  (show k0_pay2 (k0_pay6 x g) w j = k0_pay1 (k0_pay6 x g) w j from rfl).trans (pay1 x g w j)

theorem pay3 (x : Vec Ideal S384x1024 .f32) (g : Vec Ideal S1x1024 .f32) (w : Vec Ideal S1280x1024 .bf16) (j : S384x1280.Idx) :
    k0_pay3 (k0_pay6 x g) w j = dotRow (fun k => x (ix2 (j 0) k)) (fun k => g (ix2 0 k)) (fun k => w (ix2 (j 1) k)) :=
  (show k0_pay3 (k0_pay6 x g) w j = k0_pay1 (k0_pay6 x g) w j from rfl).trans (pay1 x g w j)

theorem pay4 (x : Vec Ideal S384x1024 .f32) (g : Vec Ideal S1x1024 .f32) (w : Vec Ideal S1280x1024 .bf16) (j : S384x1280.Idx) :
    k0_pay4 (k0_pay6 x g) w j = dotRow (fun k => x (ix2 (j 0) k)) (fun k => g (ix2 0 k)) (fun k => w (ix2 (j 1) k)) :=
  (show k0_pay4 (k0_pay6 x g) w j = k0_pay1 (k0_pay6 x g) w j from rfl).trans (pay1 x g w j)

theorem pay12 (x : Vec Ideal S384x1024 .f32) (g : Vec Ideal S1x1024 .f32) (u v : Vec Ideal S1536x1024 .bf16) (j : S384x1536.Idx) :
    k0_pay12 x g u v j = silu (k0_pay8 x g u j) * k0_pay9 x g v j := by
  pointwise [k0_pay12, silu, Ffn.logistic]

/-- The rows leaving the block: the row, and one half of the down product's two parts. -/
theorem pay5 (x : Vec Ideal S384x1024 .f32) (q : FVec Ideal S384x1024 .bf16) (z : FVec Ideal S384x1024 .f32)
    (a : FVec Ideal S384x1536 .f32) (w : Vec Ideal S1536x1024 .bf16) (u v y : Vec Ideal S1280x1024 .bf16) (j : S384x1024.Idx) :
    k0_pay5 x q z a w u v y j = x j + half * (z j + (∑ n, a (ix2 (j 0) n) * w (ix2 n (j 1)) : EReal)
      + (∑ n, silu (k0_pay1 q u (ix2 (j 0) n)) * k0_pay2 q v (ix2 (j 0) n) * y (ix2 n (j 1)) : EReal)) := by
  idx_vars j
  pointwise [k0_pay5, silu, Ffn.logistic, half]

theorem pay7 (j : S384x1024.Idx) : k0_pay7 (F := Ideal) j = (0 : EReal) := by
  pointwise [k0_pay7]

end Cert.Kernel5Ideal.Fwd
-- ==== Proof.Fwd.Block.lean ====
/- What one grid point of the feed-forward block leaves in its two blocks. -/
module

public import proofs.«01_k».proof.Proof.Fwd.Pay
public import proofs.«01_k».proof.Proof.Ffn.Array

@[expose] public section

set_option maxRecDepth 16384

noncomputable section

namespace Cert.Kernel5Ideal.Fwd

open Cert.Kernel5Ideal Cert.Kernel5Ideal.Gen Cert.Ffn
open Cert.Kernel2Ideal.Ffn (rowOf)
open Idealize.ShloMosaic Idealize.ShloMosaic.TcCoe Idealize.ShloMosaic.Tactic Idealize.SL.Sem

/-- A sum over the gated unit's row, in the kernel's order. -/
theorem sum_parts (f : Fin 2816 → EReal) : ∑ n, f n =
    (∑ n : Fin 1536, f ⟨n, by omega⟩) + ∑ n : Fin 1280, f ⟨1536 + n, by omega⟩ :=
  Fin.sum_univ_add (a := 1536) (b := 1280) f

/-- The row leaving the block: the row, and half the gated unit's product with the down weight. -/
def outRow (x : Fin 1024 → EReal) (p : Fin 5632 → EReal) (D : Fin 2816 → Fin 1024 → EReal) (k : Fin 1024) : EReal :=
  x k + half * ∑ n, actRow p n * D n k

section
variable (x : Vec Ideal S384x1024 .f32) (g : Vec Ideal S1x1024 .f32) (W : Vec Ideal S5632x1024 .bf16)
  (D : Vec Ideal S2816x1024 .bf16)

/-- The first product at a row of the block. -/
abbrev firstB (r : Fin 384) (n : Fin 5632) : EReal := dotRow (rowOf x r) (rowOf g 0) (rowOf W n)

theorem out_apply (j : S384x1024.Idx) : k0_pay5 x (k0_pay6 x g) (k0_pay7 (F := Ideal))
      (k0_pay12 x g (View.ld W (Rect.unit ![0, 0] ![1536, 1024] inb_S5632x1024_S1536x1024_0_0))
        (View.ld W (Rect.unit ![2816, 0] ![1536, 1024] inb_S5632x1024_S1536x1024_2816_0)))
      (View.ld D (Rect.unit ![0, 0] ![1536, 1024] inb_S2816x1024_S1536x1024_0_0))
      (View.ld W (Rect.unit ![1536, 0] ![1280, 1024] inb_S5632x1024_S1280x1024_1536_0))
      (View.ld W (Rect.unit ![4352, 0] ![1280, 1024] inb_S5632x1024_S1280x1024_4352_0))
      (View.ld D (Rect.unit ![1536, 0] ![1280, 1024] inb_S2816x1024_S1280x1024_1536_0)) j
    = outRow (rowOf x (j 0)) (firstB x g W (j 0)) (rowOf D) (j 1) := by
  rw [pay5, pay7, zero_add]
  unfold outRow
  rw [sum_parts]
  idx_vars j
  refine congrArg₂ (fun a b : EReal => a + half * b) rfl (congrArg₂ (fun a b : EReal => a + b) ?_ ?_) <;>
    refine Finset.sum_congr rfl fun n _ => ?_
  · rw [pay12, pay8, pay9]
    unfold actRow firstB
    pointwise [rowOf]
  · rw [pay1, pay2]
    unfold actRow firstB
    have e : (⟨2816 + (1536 + n.val), by omega⟩ : Fin 5632) = ⟨4352 + n.val, by omega⟩ := Fin.ext (by simp only; omega)
    simp only [e]
    pointwise [rowOf]

/-- The four stores into the block of the first product. -/
theorem first_apply (j : S384x5632.Idx) : View.canon (Val := Elt Ideal) (s := S384x5632) (e := .bf16)
      [⟨Rect.unit ![0, 4352] ![384, 1280] inb_S384x5632_S384x1280_0_4352,
          k0_pay4 (k0_pay6 x g) (View.ld W (Rect.unit ![4352, 0] ![1280, 1024] inb_S5632x1024_S1280x1024_4352_0))⟩,
        ⟨Rect.unit ![0, 1536] ![384, 1280] inb_S384x5632_S384x1280_0_1536,
          k0_pay3 (k0_pay6 x g) (View.ld W (Rect.unit ![1536, 0] ![1280, 1024] inb_S5632x1024_S1280x1024_1536_0))⟩,
        ⟨Rect.unit ![0, 2816] ![384, 1536] inb_S384x5632_S384x1536_0_2816,
          k0_pay11 x g (View.ld W (Rect.unit ![2816, 0] ![1536, 1024] inb_S5632x1024_S1536x1024_2816_0))⟩,
        ⟨Rect.unit ![0, 0] ![384, 1536] inb_S384x5632_S384x1536_0_0,
          k0_pay10 x g (View.ld W (Rect.unit ![0, 0] ![1536, 1024] inb_S5632x1024_S1536x1024_0_0))⟩]
      j = firstB x g W (j 0) (j 1) := by
  canon_tiles y hy using (View.cover_of_tiledBy _ ![384, 256] (by sl_kernel_rfl) _)
  · refine (pay4 _ _ _ _).trans ?_
    have e0 : (j 0 : Fin 384) = y 0 := Fin.ext hy0
    have e1 : (j 1 : Fin 5632) = ⟨4352 + (y 1).val, by omega⟩ := Fin.ext (by simp only; omega)
    idx_vars y
    pointwise [rowOf, firstB, e0, e1]
  · refine (pay3 _ _ _ _).trans ?_
    have e0 : (j 0 : Fin 384) = y 0 := Fin.ext hy0
    have e1 : (j 1 : Fin 5632) = ⟨1536 + (y 1).val, by omega⟩ := Fin.ext (by simp only; omega)
    idx_vars y
    pointwise [rowOf, firstB, e0, e1]
  · refine (pay11 _ _ _ _).trans ?_
    have e0 : (j 0 : Fin 384) = y 0 := Fin.ext hy0
    have e1 : (j 1 : Fin 5632) = ⟨2816 + (y 1).val, by omega⟩ := Fin.ext (by simp only; omega)
    idx_vars y
    pointwise [rowOf, firstB, e0, e1]
  · refine (pay10 _ _ _ _).trans ?_
    have e0 : (j 0 : Fin 384) = y 0 := Fin.ext hy0
    have e1 : (j 1 : Fin 5632) = ⟨0 + (y 1).val, by omega⟩ := Fin.ext (by simp only; omega)
    idx_vars y
    pointwise [rowOf, firstB, e0, e1]

end

variable (m : (ℓ : Loc nD τ sig) → Buf (Elt Ideal) ℓ)

/-- The blocks that a grid point reads: rows, the norm's weight, and the two weights whole. -/
abbrev xB (c : Dev nD) (t : Fin cfg0.N) : Vec Ideal S384x1024 .f32 := iblk m c 0 t
abbrev gB (c : Dev nD) (t : Fin cfg0.N) : Vec Ideal S1x1024 .f32 := iblk m c 1 t
abbrev WB (c : Dev nD) (t : Fin cfg0.N) : Vec Ideal S5632x1024 .bf16 := iblk m c 2 t
abbrev DB (c : Dev nD) (t : Fin cfg0.N) : Vec Ideal S2816x1024 .bf16 := iblk m c 3 t

/-- The rows leaving the block, -/
theorem out4 (c : Dev nD) (t : Fin cfg0.N) (j : S384x1024.Idx) : (outsAt0 m c t).1 j
    = outRow (rowOf (xB m c t) (j 0)) (firstB (xB m c t) (gB m c t) (WB m c t) (j 0)) (rowOf (DB m c t)) (j 1) := by
  simp only [outsAt0]
  frame_out
  exact out_apply _ _ _ _ j

/-- and the first product. -/
theorem out5 (c : Dev nD) (t : Fin cfg0.N) (j : S384x5632.Idx) : (outsAt0 m c t).2 j
    = firstB (xB m c t) (gB m c t) (WB m c t) (j 0) (j 1) := by
  simp only [outsAt0]
  frame_out
  exact first_apply _ _ _ j

end Cert.Kernel5Ideal.Fwd
-- ==== Proof.Fwd.Array.lean ====
/- What the two arrays of the feed-forward block hold, as functions of the arguments. -/
module

public import proofs.«01_k».proof.Proof.Fwd.Block

@[expose] public section

set_option maxRecDepth 16384

noncomputable section

namespace Cert.Kernel5Ideal.Fwd

open Cert.Kernel5Ideal Cert.Kernel5Ideal.Gen Cert.Ffn
open Cert.Kernel2Ideal.Ffn (rowOf firstRow firstAt)
open Idealize.ShloMosaic Idealize.ShloMosaic.TcCoe Idealize.ShloMosaic.Tactic Idealize.SL.Sem

section
variable (h : Vec Ideal S8448x1024 .f32) (g : Vec Ideal S1x1024 .f32) (W : Vec Ideal S1024x5632 .f32)
  (D : Vec Ideal S2816x1024 .f32)

/-- The rows leaving the block, -/
def outV : Vec Ideal S8448x1024 .f32 := fun j => outRow (rowOf h (j 0)) (firstAt h g W (j 0)) (rowOf D) (j 1)
/-- and the first product. -/
def firstV : Vec Ideal S8448x5632 .bf16 := fun j => firstAt h g W (j 0) (j 1)

end

variable (m : (ℓ : Loc nD τ sig) → Buf (Elt Ideal) ℓ) (c : Dev nD)

/-- The arguments: rows, the norm's weight and the two weights. -/
abbrev hA : Vec Ideal S8448x1024 .f32 := m ((c : Thread nD τ).loc main_arg0)
abbrev gA : Vec Ideal S1x1024 .f32 := m ((c : Thread nD τ).loc main_arg1)
abbrev WA : Vec Ideal S1024x5632 .f32 := m ((c : Thread nD τ).loc main_arg2)
abbrev DA : Vec Ideal S2816x1024 .f32 := m ((c : Thread nD τ).loc main_arg3)

/-- The weights as the host hands them to the kernel: the first transposed. -/
theorem host_W (j : S5632x1024.Idx) : (V m c (Pipeline.arrRef spec0 2) : Vec Ideal S5632x1024 .bf16) j
    = WA m c (ix2 (j 1) (j 0)) := by
  entry_read
  idx_vars j
  pointwise

theorem host_D (j : S2816x1024.Idx) : (V m c (Pipeline.arrRef spec0 3) : Vec Ideal S2816x1024 .bf16) j
    = DA m c j := by
  entry_read
  pointwise

/-- Where each window lies at a grid point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

/-- The row of the arrays that a row of a grid point's block is. -/
def rowAt (t : Fin cfg0.N) (r : Fin 384) : Fin 8448 := ⟨384 * t.val + r.val, by have := t.isLt.trans_eq N_0; omega⟩

theorem rows_x (t : Fin cfg0.N) (r : Fin 384) : rowOf (xB m c t) r = rowOf (hA m c) (rowAt t r) := by
  funext k
  show xB m c t (ix2 r k) = hA m c (ix2 (rowAt t r) k)
  unfold rowAt
  blk_ext [xB, iblk, V, idx0]

theorem rows_g (t : Fin cfg0.N) : rowOf (gB m c t) 0 = rowOf (gA m c) 0 := by
  funext k
  show gB m c t (ix2 0 k) = gA m c (ix2 0 k)
  blk_ext [gB, iblk, V, idx1]

theorem rows_W (t : Fin cfg0.N) : rowOf (WB m c t) = fun n k => WA m c (ix2 k n) := by
  funext n k
  refine Eq.trans ?_ (host_W m c (ix2 n k))
  show WB m c t (ix2 n k) = _
  unfold WB iblk
  generalize V m c (Pipeline.arrRef spec0 2) = a
  blk_ext [idx2]

theorem rows_D (t : Fin cfg0.N) : rowOf (DB m c t) = rowOf (DA m c) := by
  funext n k
  refine Eq.trans ?_ (host_D m c (ix2 n k))
  show DB m c t (ix2 n k) = _
  unfold DB iblk
  generalize V m c (Pipeline.arrRef spec0 3) = a
  blk_ext [idx3]

theorem rows_first (t : Fin cfg0.N) (r : Fin 384) :
    firstB (xB m c t) (gB m c t) (WB m c t) r = firstAt (hA m c) (gA m c) (WA m c) (rowAt t r) := by
  funext n
  show dotRow (rowOf (xB m c t) r) (rowOf (gB m c t) 0) (rowOf (WB m c t) n) = _
  rw [rows_x, rows_g, rows_W]
  rfl

theorem at4 (t : Fin cfg0.N) (j : S384x1024.Idx) : (outsAt0 m c t).1 j
    = outV (hA m c) (gA m c) (WA m c) (DA m c) (ix2 (rowAt t (j 0)) (j 1)) := by
  refine (out4 m c t j).trans ?_
  idx_vars j
  show outRow (rowOf (xB m c t) j0) (firstB (xB m c t) (gB m c t) (WB m c t) j0) (rowOf (DB m c t)) j1 = _
  rw [rows_first, rows_x, rows_D]
  rfl

theorem at5 (t : Fin cfg0.N) (j : S384x5632.Idx) : (outsAt0 m c t).2 j
    = firstV (hA m c) (gA m c) (WA m c) (ix2 (rowAt t (j 0)) (j 1)) := by
  refine (out5 m c t j).trans ?_
  idx_vars j
  exact congrFun (rows_first m c t j0) j1

theorem final4 : (dats m 0 c).arrAt 4 cfg0.N = outV (hA m c) (gA m c) (WA m c) (DA m c) := by
  refine (dats m 0 c).arrAt_eq_of_covers 4 _ (by decide +kernel) fun t hf y => ?_
  blk_simp
  rw [after0_4]
  refine (at4 m c t y).trans (congrArg _ ?_)
  unfold rowAt
  blk_ext [idx4]

theorem final5 : (dats m 0 c).arrAt 5 cfg0.N = firstV (hA m c) (gA m c) (WA m c) := by
  refine (dats m 0 c).arrAt_eq_of_covers 5 _ (by decide +kernel) fun t hf y => ?_
  blk_simp
  rw [after0_5]
  refine (at5 m c t y).trans (congrArg _ ?_)
  unfold rowAt
  blk_ext [idx5]

end Cert.Kernel5Ideal.Fwd
-- ==== Proof.Fwd.Ref.lean ====
/- What the feed-forward block's mathematics computes, element by element. -/
module

public import proofs.«01_k».proof.Proof.Fwd.Array
public import proofs.«01_k».proof.Proof.Gen.Reference5Ideal.Read

@[expose] public section

set_option maxRecDepth 16384

noncomputable section

namespace Cert.Reference5Ideal.Fwd

open Cert.Reference5Ideal Cert.Reference5Ideal.Gen Cert.Reference5Ideal.Read Cert.Ffn
open Cert.Kernel2Ideal.Ffn (rowOf firstRow firstAt)
open Cert.Kernel5Ideal.Fwd (outV firstV outRow)
open Idealize.ShloMosaic Idealize.ShloMosaic.TcCoe Idealize.ShloMosaic.Tactic Idealize.SL.Sem

variable (h : Vec Ideal S8448x1024 .f32) (g : Vec Ideal S1x1024 .f32) (W : Vec Ideal S1024x5632 .f32)
  (D : Vec Ideal S2816x1024 .f32)

/-- The first product. -/
theorem first (r : Fin 8448) (n : Fin 5632) : val_main_v12 (F := Ideal) h g W (ix2 r n) = firstAt h g W r n := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1,
    firstAt, firstRow, normed, unitRow, rstd, len, eps, rowOf]

theorem first_eq : val_main_v34 (F := Ideal) h g W = firstV h g W := by
  funext j
  idx_vars j
  refine Eq.trans ?_ (first h g W j0 j1)
  rfl

/-- The gated unit. -/
theorem act (r : Fin 8448) (n : Fin 2816) : val_main_v16 (F := Ideal) h g W (ix2 r n) = actRow (firstAt h g W r) n := by
  unfold actRow silu Ffn.logistic
  simp only [← first]
  pointwise [val_main_v16, val_main_v15, val_main_v14, val_main_v13, val_main_call0_v0, val_main_call0_v1, val_main_call0_v2,
    val_main_call0_v3, val_main_call0_v4, val_main_call0_v5, val_main_call0_cst, val_main_call0_cst_0]
  rw [zero_sub]

theorem out_eq : val_main_v20 (F := Ideal) h g W D = outV h g W D := by
  funext j
  idx_vars j
  show _ = (h (ix2 j0 j1) : EReal) + half * ∑ n, (actRow (firstAt h g W j0) n : EReal) * D (ix2 n j1)
  simp only [← act]
  pointwise [val_main_v20, val_main_v19, val_main_v18, val_main_v17, val_main_cst_2, half, rowOf]

end Cert.Reference5Ideal.Fwd
-- ==== Proof.Attn.Finite.lean ====
/- What the precondition of the attention says: every query, key and sink is a real. -/
module

public import proofs.«01_k».proof.Pre_finite6
public import proofs.«01_k».proof.Proof.Ffn.Finite

@[expose] public section

set_option maxRecDepth 16384

noncomputable section

namespace Cert.Pre_finite6

open Idealize.ShloMosaic Idealize.ShloMosaic.Tactic Cert.Ffn

/-- The side conditions that the precondition's operations take. -/
instance facts : Facts where
  bcast_S_S2x4224x1024 := by decide
  reducesTo_S2x4224x1024_S_d0_1_2 := by decide
  h_S_ := by decide
  bcast_S_S2x4224x256 := by decide
  reducesTo_S2x4224x256_S_d0_1_2 := by decide
  bcast_S_S1x16 := by decide
  reducesTo_S1x16_S_d0_1 := by decide

/-- The precondition says that every entry of the queries, of the keys and of the sinks is a real number. -/
theorem finite (q : FVec Ideal S2x4224x1024 .f32) (k : FVec Ideal S2x4224x256 .f32) (kv : FVec Ideal S2x4224x512 .f32)
    (s : FVec Ideal S1x16 .f32) (e : fn q k kv s = fun _ => 1#1) :
    (∀ j, IsReal (q j)) ∧ (∀ j, IsReal (k j)) ∧ (∀ j, IsReal (s j)) := by
  have e := congrFun e (fun x => x.elim0)
  dsimp only [fn] at e
  simp only [andi, IntOp.andi_eq_one] at e
  obtain ⟨⟨eq, ek⟩, es⟩ := e
  exact ⟨Cert.Pre_finite2.isReal_of_all _ _ _ _ _ _ eq, Cert.Pre_finite2.isReal_of_all _ _ _ _ _ _ ek,
    Cert.Pre_finite2.isReal_of_all _ _ _ _ _ _ es⟩

end Cert.Pre_finite6

end

end
-- ==== Proof.Attn.Ops.lean ====
/- One head of the attention's body, as a function of the blocks it reads: the body's own operations, the head's number a
   parameter; and that the four heads the body writes out are this function. -/
module

public import proofs.«01_k».proof.Proof.Gen.Kernel6Ideal.Skeleton

@[expose] public section

set_option maxRecDepth 16384

noncomputable section

namespace Cert.Kernel6Ideal.Attn

open Cert.Kernel6Ideal Cert.Kernel6Ideal.Gen
open Idealize.ShloMosaic Idealize.ShloMosaic.TcCoe Idealize.ShloMosaic.Tactic

variable {F : FTy → Type} [FloatOps F] [Named F]

/-- The group of each of a head's 256 lanes. -/
def lane : IVec S1x256 32 := k0_pay7 (iota .tc S1x256 32 [1] iota_S1x256_d1_w32) 64#32 k0_pay4 k0_pay5 k0_pay6
/-- The lanes of group `h`. -/
def hsel (h : BitVec 32) : IVec S1x256 1 := cmpi .eq lane (broadcast S1x256 h)
/-- Zero. -/
def zero : F .f32 := Scalar.ofBits .f32 0x00000000#32
/-- The mask. -/
def masked : F .f32 := Named.named κ "mask" 0xF149F2CA#32

/-- What one head reads: its number `h`, the grid point, its lanes of the queries, the three blocks of keys and of values,
    and its four sinks. -/
structure In (F : FTy → Type) where
  h : BitVec 32
  i : grid0.Coords
  q : Vec F S1x128x256 .f32
  k0 : Vec F S1x128x256 .f32
  kp : Vec F S1x128x256 .f32
  kc : Vec F S1x128x256 .f32
  v0 : Vec F S1x128x256 .f32
  vp : Vec F S1x128x256 .f32
  vc : Vec F S1x128x256 .f32
  a : Elt F .f32
  b : Elt F .f32
  c : Elt F .f32
  d : Elt F .f32

namespace In

variable (H : In F)

/-- The queries, the four groups stacked. -/
def qs : FVec F S512x256 .bf16 := k0_pay8 (iota .tc S1x256 32 [1] iota_S1x256_d1_w32) 64#32 k0_pay4 k0_pay5 k0_pay6 H.q
/-- The first block's keys on every group's lanes. -/
def k0x : FVec F S128x256 .bf16 := k0_pay21 (hsel H.h) H.k0
/-- The band's keys on every group's lanes. -/
def k1x : FVec F S256x256 .bf16 := k0_pay10 lane H.h H.kp H.kc
/-- The first block's values on every group's lanes. -/
def v0x : FVec F S128x256 .bf16 := k0_pay21 (hsel H.h) H.v0
/-- The band's values on every group's lanes. -/
def v1x : FVec F S256x256 .bf16 := k0_pay10 lane H.h H.vp H.vc
/-- The masked scores against the first block. -/
def s0 : FVec F S512x128 .f32 :=
  k0_pay12 k0_pay2 (k0_pay11 lane H.qs H.h H.k0) masked
/-- The masked scores against the band. -/
def s1 : FVec F S512x256 .f32 := k0_pay13 (k0_pay3 H.i) H.qs H.k1x
/-- The sinks, row by row. -/
def sink : FVec F S512x1 .f32 := k0_pay16 k0_pay14 (k0_pay15 H.a H.b) H.c H.d
/-- The rows' maxima. -/
def max : FVec F S512x1 .f32 := k0_pay17 H.s0 H.s1 k0_pay14 (k0_pay15 H.a H.b) H.c H.d
/-- The exponentials of the scores against the first block. -/
def p0 : FVec F S512x128 .f32 := k0_pay18 H.s0 H.s1 k0_pay14 (k0_pay15 H.a H.b) H.c H.d
/-- The exponentials of the scores against the band. -/
def p1 : FVec F S512x256 .f32 := k0_pay19 H.s0 H.s1 k0_pay14 (k0_pay15 H.a H.b) H.c H.d
/-- The softmax's denominators. -/
def den : FVec F S512x1 .f32 := k0_pay20 H.s0 H.s1 k0_pay14 (k0_pay15 H.a H.b) H.c H.d
/-- The attended values, the four groups stacked. -/
def os : FVec F S512x256 .f32 := k0_pay22 (hsel H.h) H.p0 H.p1 H.den H.v0x H.vp H.vc
/-- The attended values. -/
def out : FVec F S1x128x256 .f32 :=
  k0_pay26 lane H.os (k0_pay23 lane (hsel H.h) H.p0 H.p1 H.den H.v0x H.vp H.vc)
    (k0_pay24 (hsel H.h) H.p0 H.p1 H.den H.v0x H.vp H.vc) zero (k0_pay25 lane)

end In

end Cert.Kernel6Ideal.Attn

end

end
-- ==== Proof.Attn.Heads.lean ====
/- The four heads' inputs at a grid point, and the body's stores as those heads' functions. -/
module

public import proofs.«01_k».proof.Proof.Gen.Kernel6Ideal.Frame
public import proofs.«01_k».proof.Proof.Attn.Ops
public import Idealize.ShloMosaic.Lib.Pipeline.ValueKit

@[expose] public section

set_option maxRecDepth 16384

noncomputable section

namespace Cert.Kernel6Ideal.Attn

open Cert.Kernel6Ideal Cert.Kernel6Ideal.Gen
open Idealize.ShloMosaic Idealize.ShloMosaic.TcCoe Idealize.ShloMosaic.Tactic

variable {F : FTy → Type} [FloatOps F] [Named F]

variable (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole)
  (x0 : Vec F S1x128x1024 .f32) (x1 x2 x3 x4 x5 x6 : Vec F S1x128x256 .f32) (x7 : Vec F S1x16 .f32)

/-- What one head reads of a grid point's blocks: its number `h`, the lanes from `n` on of the queries, all lanes of the
    keys and values, and the sinks `n0`, `n1`, `n2`, `n3`. -/
def mk (h : BitVec 32) (n n0 n1 n2 n3 : ℕ) (hn : ∀ a, (![0, 0, n] : Fin 3 → Nat) a + S1x128x256.size a ≤ S1x128x1024.size a)
    (hn0 : ∀ a, (![0, n0] : Fin 2 → Nat) a + S1x1.size a ≤ S1x16.size a)
    (hn1 : ∀ a, (![0, n1] : Fin 2 → Nat) a + S1x1.size a ≤ S1x16.size a)
    (hn2 : ∀ a, (![0, n2] : Fin 2 → Nat) a + S1x1.size a ≤ S1x16.size a)
    (hn3 : ∀ a, (![0, n3] : Fin 2 → Nat) a + S1x1.size a ≤ S1x16.size a) : In F where
  h := h
  i := i
  q := View.readAt (Elt F) arg2.view (Rect.unit (s := S1x128x1024) ![0, 0, n] S1x128x256.size hn).toLoadRect (harg2.unread x0)
  k0 := View.readAt (Elt F) arg3.view (Rect.unit (s := S1x128x256) ![0, 0, 0] S1x128x256.size inb_S1x128x256_S1x128x256_0_0_0).toLoadRect (harg3.unread x1)
  kp := View.readAt (Elt F) arg4.view (Rect.unit (s := S1x128x256) ![0, 0, 0] S1x128x256.size inb_S1x128x256_S1x128x256_0_0_0).toLoadRect (harg4.unread x2)
  kc := View.readAt (Elt F) arg5.view (Rect.unit (s := S1x128x256) ![0, 0, 0] S1x128x256.size inb_S1x128x256_S1x128x256_0_0_0).toLoadRect (harg5.unread x3)
  v0 := View.readAt (Elt F) arg6.view (Rect.unit (s := S1x128x256) ![0, 0, 0] S1x128x256.size inb_S1x128x256_S1x128x256_0_0_0).toLoadRect (harg6.unread x4)
  vp := View.readAt (Elt F) arg7.view (Rect.unit (s := S1x128x256) ![0, 0, 0] S1x128x256.size inb_S1x128x256_S1x128x256_0_0_0).toLoadRect (harg7.unread x5)
  vc := View.readAt (Elt F) arg8.view (Rect.unit (s := S1x128x256) ![0, 0, 0] S1x128x256.size inb_S1x128x256_S1x128x256_0_0_0).toLoadRect (harg8.unread x6)
  a := View.readAt (Elt F) arg9.view (Rect.unit (s := S1x16) ![0, n0] S1x1.size hn0).toLoadRect (harg9.unread x7) (Shape.Idx.first (by show 0 < S1x1.numel; decide))
  b := View.readAt (Elt F) arg9.view (Rect.unit (s := S1x16) ![0, n1] S1x1.size hn1).toLoadRect (harg9.unread x7) (Shape.Idx.first (by show 0 < S1x1.numel; decide))
  c := View.readAt (Elt F) arg9.view (Rect.unit (s := S1x16) ![0, n2] S1x1.size hn2).toLoadRect (harg9.unread x7) (Shape.Idx.first (by show 0 < S1x1.numel; decide))
  d := View.readAt (Elt F) arg9.view (Rect.unit (s := S1x16) ![0, n3] S1x1.size hn3).toLoadRect (harg9.unread x7) (Shape.Idx.first (by show 0 < S1x1.numel; decide))

/-- What head 0 reads, -/
def hd0 : In F :=
  mk i arg2 harg2 arg3 harg3 arg4 harg4 arg5 harg5 arg6 harg6 arg7 harg7 arg8 harg8 arg9 harg9 x0 x1 x2 x3 x4 x5 x6 x7 0#32 0 0 1 2 3
    inb_S1x128x1024_S1x128x256_0_0_0 inb_S1x16_S1x1_0_0 inb_S1x16_S1x1_0_1 inb_S1x16_S1x1_0_2 inb_S1x16_S1x1_0_3

/-- head 1, -/
def hd1 : In F :=
  mk i arg2 harg2 arg3 harg3 arg4 harg4 arg5 harg5 arg6 harg6 arg7 harg7 arg8 harg8 arg9 harg9 x0 x1 x2 x3 x4 x5 x6 x7 1#32 256 4 5 6 7
    inb_S1x128x1024_S1x128x256_0_0_256 inb_S1x16_S1x1_0_4 inb_S1x16_S1x1_0_5 inb_S1x16_S1x1_0_6 inb_S1x16_S1x1_0_7

/-- head 2, -/
def hd2 : In F :=
  mk i arg2 harg2 arg3 harg3 arg4 harg4 arg5 harg5 arg6 harg6 arg7 harg7 arg8 harg8 arg9 harg9 x0 x1 x2 x3 x4 x5 x6 x7 2#32 512 8 9 10 11
    inb_S1x128x1024_S1x128x256_0_0_512 inb_S1x16_S1x1_0_8 inb_S1x16_S1x1_0_9 inb_S1x16_S1x1_0_10 inb_S1x16_S1x1_0_11

/-- and head 3. -/
def hd3 : In F :=
  mk i arg2 harg2 arg3 harg3 arg4 harg4 arg5 harg5 arg6 harg6 arg7 harg7 arg8 harg8 arg9 harg9 x0 x1 x2 x3 x4 x5 x6 x7 3#32 768 12 13 14 15
    inb_S1x128x1024_S1x128x256_0_0_768 inb_S1x16_S1x1_0_12 inb_S1x16_S1x1_0_13 inb_S1x16_S1x1_0_14 inb_S1x16_S1x1_0_15

/-- The body's stores, the last first. -/
def stores : List (View.Piece (Elt F) S1x128x1024 .f32) :=
  [⟨Rect.unit (s := S1x128x1024) ![0, 0, 768] S1x128x256.size inb_S1x128x1024_S1x128x256_0_0_768, (hd3 i arg2 harg2 arg3 harg3 arg4 harg4 arg5 harg5 arg6 harg6 arg7 harg7 arg8 harg8 arg9 harg9 x0 x1 x2 x3 x4 x5 x6 x7).out⟩,
   ⟨Rect.unit (s := S1x128x1024) ![0, 0, 512] S1x128x256.size inb_S1x128x1024_S1x128x256_0_0_512, (hd2 i arg2 harg2 arg3 harg3 arg4 harg4 arg5 harg5 arg6 harg6 arg7 harg7 arg8 harg8 arg9 harg9 x0 x1 x2 x3 x4 x5 x6 x7).out⟩,
   ⟨Rect.unit (s := S1x128x1024) ![0, 0, 256] S1x128x256.size inb_S1x128x1024_S1x128x256_0_0_256, (hd1 i arg2 harg2 arg3 harg3 arg4 harg4 arg5 harg5 arg6 harg6 arg7 harg7 arg8 harg8 arg9 harg9 x0 x1 x2 x3 x4 x5 x6 x7).out⟩,
   ⟨Rect.unit (s := S1x128x1024) ![0, 0, 0] S1x128x256.size inb_S1x128x1024_S1x128x256_0_0_0, (hd0 i arg2 harg2 arg3 harg3 arg4 harg4 arg5 harg5 arg6 harg6 arg7 harg7 arg8 harg8 arg9 harg9 x0 x1 x2 x3 x4 x5 x6 x7).out⟩]

/-- The body's stores into the result are the four heads' results side by side. -/
theorem run_stores : (kernelRun0_A c i arg2 harg2 arg3 harg3 arg4 harg4 arg5 harg5 arg6 harg6 arg7 harg7 arg8 harg8 arg9 harg9 arg10 harg10 x0 x1 x2 x3 x4 x5 x6 x7).1 =
    stores i arg2 harg2 arg3 harg3 arg4 harg4 arg5 harg5 arg6 harg6 arg7 harg7 arg8 harg8 arg9 harg9 x0 x1 x2 x3 x4 x5 x6 x7 := by
  sl_kernel_rfl

end Cert.Kernel6Ideal.Attn

end

end
-- ==== Proof.Attn.Lanes.lean ====
/- Lanes and rows of a head's four groups, and the sums and choices over them. -/
module

public import Idealize.ShloMosaic.PureOps.Ideal
public import Idealize.ShloMosaic.PureOps.Ideal.Laws
public import Idealize.ShloMosaic.Lib.WordCmp

@[expose] public section

set_option maxRecDepth 16384

noncomputable section

namespace Cert.Attn

open Idealize.ShloMosaic Idealize.ShloMosaic.WordCmp

/-- Lane `d` of group `g`. -/
def ln (g : Fin 4) (d : Fin 64) : Fin 256 := ⟨64 * g.val + d.val, by omega⟩
/-- Row `r` of group `g`. -/
def rw4 (g : Fin 4) (r : Fin 128) : Fin 512 := ⟨128 * g.val + r.val, by omega⟩

/-- A channel's head within its group, and a stacked row's. -/
theorem ln_div (g : Fin 4) (d : Fin 64) : (ln g d).val / 64 = g.val := by simp only [ln]; omega
theorem rw4_div (g : Fin 4) (r : Fin 128) : (rw4 g r).val / 128 = g.val := by simp only [rw4]; omega

/-- A choice by the equality of two small words. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · subst e; simp [IntOp.cmpi, Scalar.select]
  · have h2 : (BitVec.ofNat 32 a == BitVec.ofNat 32 b) = false := beq_eq_false_iff_ne.mpr fun h' => e (h.1 h')
    rw [if_neg e]
    show Scalar.select (BitVec.ofBool (BitVec.ofNat 32 a == BitVec.ofNat 32 b)) x y = y
    rw [h2]; rfl

/-- Four blocks of 128 rows, one after another, read at row `r` of block `g`. -/
theorem stack_apply {α : Type} (f : Fin 4 → Fin 128 → α) (g : Fin 4) (r : Fin 128) :
    (if h : (rw4 g r).val < 128 then f 0 ⟨(rw4 g r).val, h⟩ else
      if h : (rw4 g r).val - 128 < 128 then f 1 ⟨(rw4 g r).val - 128, h⟩ else
        if h : (rw4 g r).val - 128 - 128 < 128 then f 2 ⟨(rw4 g r).val - 128 - 128, h⟩ else
          f 3 ⟨(rw4 g r).val - 128 - 128 - 128, by have := (rw4 g r).isLt; omega⟩) = f g r := by
  have hr := r.isLt
  fin_cases g
  · rw [dif_pos (by simp [rw4])]; exact congrArg _ (Fin.ext (by simp [rw4]))
  · rw [dif_neg (by simp [rw4]), dif_pos (by simp [rw4])]; exact congrArg _ (Fin.ext (by simp [rw4]))
  · rw [dif_neg (by simp [rw4]; omega), dif_neg (by simp [rw4]; omega), dif_pos (by simp [rw4]; omega)]
    exact congrArg _ (Fin.ext (by simp [rw4]; omega))
  · rw [dif_neg (by simp [rw4]; omega), dif_neg (by simp [rw4]; omega), dif_neg (by simp [rw4]; omega)]
    exact congrArg _ (Fin.ext (by simp [rw4]; omega))

/-- Every head is one of four rotations of any other, and the four differ. -/
theorem rots : ∀ hh g : Fin 4, (hh = g ∨ hh = g + 1 ∨ hh = g + 2 ∨ hh = g + 3) ∧ g + 1 ≠ g ∧ g + 2 ≠ g ∧ g + 3 ≠ g ∧
    g + 1 ≠ g + 2 ∧ g + 1 ≠ g + 3 ∧ g + 2 ≠ g + 3 := by decide

/-- A row that is zero outside group `hh`, added to its rotations by two, one and three groups, holds group `hh` on every
    group's lanes. -/
theorem fold4 (f : Fin 256 → EReal) (hh : Fin 4) (hz : ∀ l : Fin 256, l.val / 64 ≠ hh.val → f l = 0) (g : Fin 4) (d : Fin 64) :
    f (ln g d) + f ⟨((ln g d).val + 256 - 128) % 256, Nat.mod_lt _ (by decide)⟩ +
      (f ⟨((ln g d).val + 256 - 64) % 256, Nat.mod_lt _ (by decide)⟩ +
        f ⟨(((ln g d).val + 256 - 64) % 256 + 256 - 128) % 256, Nat.mod_lt _ (by decide)⟩) = f (ln hh d) := by
  have hz' : ∀ g' : Fin 4, g' ≠ hh → f (ln g' d) = 0 := fun g' h => hz _ (by rw [ln_div]; exact fun e => h (Fin.ext e))
  have e2 : f ⟨((ln g d).val + 256 - 128) % 256, Nat.mod_lt _ (by decide)⟩ = f (ln (g + 2) d) := by
    congr 1; apply Fin.ext; fin_cases g <;> simp [ln] <;> omega
  have e3 : f ⟨((ln g d).val + 256 - 64) % 256, Nat.mod_lt _ (by decide)⟩ = f (ln (g + 3) d) := by
    congr 1; apply Fin.ext; fin_cases g <;> simp [ln] <;> omega
  have e1 : f ⟨(((ln g d).val + 256 - 64) % 256 + 256 - 128) % 256, Nat.mod_lt _ (by decide)⟩ = f (ln (g + 1) d) := by
    congr 1; apply Fin.ext; fin_cases g <;> simp [ln] <;> omega
  rw [e1, e2, e3]
  obtain ⟨hc, n1, n2, n3, n12, n13, n23⟩ := rots hh g
  rcases hc with rfl | rfl | rfl | rfl
  · rw [hz' _ n1, hz' _ n2, hz' _ n3]; simp
  · rw [hz' _ n1.symm, hz' _ n12.symm, hz' _ n13.symm]; simp
  · rw [hz' _ n2.symm, hz' _ n12, hz' _ n23.symm]; simp
  · rw [hz' _ n3.symm, hz' _ n13, hz' _ n23]; simp

/-- Row `j` of two blocks of 128 rows. -/
def two {α : Type} (x y : Fin 128 → α) (j : Fin 256) : α :=
  if h : j.val < 128 then x ⟨j.val, h⟩ else y ⟨j.val - 128, by omega⟩

/-- Equal halves make equal rows. -/
theorem two_congr {α : Type} {x y x' y' : Fin 128 → α} (hx : ∀ c, x c = x' c) (hy : ∀ c, y c = y' c) (j : Fin 256) :
    two x y j = two x' y' j := by
  rw [show x = x' from funext hx, show y = y' from funext hy]

/-- A sum over 256 lanes, group by group. -/
theorem sum_ln (f : Fin 256 → EReal) : ∑ l, f l = ∑ g, ∑ d, f (ln g d) := by
  rw [← Fintype.sum_prod_type', ← (finProdFinEquiv (m := 4) (n := 64)).sum_comp]
  exact Finset.sum_congr rfl fun x _ => congrArg f (Fin.ext (by have := finProdFinEquiv_apply_val x; simp only [ln]; omega))

/-- A sum over 256 lanes of which group `g`'s alone count. -/
theorem sum_group (g : Fin 4) (x : Fin 64 → EReal) (f : Fin 4 → Fin 64 → EReal) :
    ∑ g', ∑ d, (if g' = g then x d else 0) * f g' d = ∑ d, x d * f g d := by
  rw [Finset.sum_eq_single g]
  · simp
  · intro b _ hb; simp [hb]
  · simp

/-- A row's number within its group, as the band's mask counts it. -/
def rowIn (ρ : Fin 512) : BitVec 32 :=
  let n : BitVec 32 := Scalar.select (Scalar.cmpi .eq 128#32 0#32) 1#32 128#32
  let x : BitVec 32 := IntOp.remsi ArithUnit.vector (BitVec.ofNat 32 ρ.val) n
  Scalar.select (IntOp.andi (IntOp.xori (IntOp.cmpi .slt x 0#32) (Scalar.cmpi .slt n 0#32)) (IntOp.cmpi .ne x 0#32)) (IntOp.addi x n) x

/-- A stacked row's query row, as a word. -/
theorem rowIn_eq : ∀ ρ : Fin 512, rowIn ρ = BitVec.ofNat 32 (ρ.val % 128) := by decide +kernel

/-- The sliding window: row `j` of the band of two blocks is seen from query `r`, the band's first block only where it is
    not padding. -/
def Sees (late : Bool) (r : Fin 128) (j : Fin 256) : Prop :=
  (j.val < 128 ∧ r.val < j.val ∧ late = true) ∨ (128 ≤ j.val ∧ j.val - 128 ≤ r.val)

instance (late : Bool) (r : Fin 128) (j : Fin 256) : Decidable (Sees late r j) := by unfold Sees; infer_instance

end Cert.Attn

end

end
-- ==== Proof.Attn.Read.lean ====
/- What one head reads, element by element over the extended reals: the stacked queries, the keys and values spread over
   the groups' lanes, and the two masks. -/
module

public import proofs.«01_k».proof.Proof.Attn.Ops
public import proofs.«01_k».proof.Proof.Attn.Lanes
public import Idealize.ShloMosaic.Lib.Pointwise
public import Idealize.ShloMosaic.Lib.Pointwise.Tactic

@[expose] public section

set_option maxRecDepth 16384

noncomputable section

namespace Cert.Kernel6Ideal.Attn

open Cert.Kernel6Ideal Cert.Kernel6Ideal.Gen Cert.Attn
open Idealize.ShloMosaic Idealize.ShloMosaic.TcCoe Idealize.ShloMosaic.Tactic Idealize.ShloMosaic.WordCmp

/-- A lane's head, as a word. -/
theorem lane_apply (l : Fin 256) : lane (ix2 0 l) = BitVec.ofNat 32 (l.val / 64) := by
  revert l; decide +kernel

/-- Selecting by the group's head. -/
theorem hsel_sel {α : Type} (h : Fin 4) (l : Fin 256) (x y : α) :
    Scalar.select (hsel (BitVec.ofNat 32 h.val) (ix2 0 l)) x y = if l.val / 64 = h.val then x else y := by
  have : hsel (BitVec.ofNat 32 h.val) (ix2 0 l) = IntOp.cmpi .eq (lane (ix2 0 l)) (BitVec.ofNat 32 h.val) := rfl
  rw [this, lane_apply, sel_eq _ _ (by omega) (by omega)]

/-- Selecting by a lane's head. -/
theorem lane_sel {α : Type} (n : ℕ) (hn : n < 2 ^ 32) (l : Fin 256) (x y : α) :
    Scalar.select (IntOp.cmpi .eq (lane (ix2 0 l)) (BitVec.ofNat 32 n)) x y = if l.val / 64 = n then x else y := by
  rw [lane_apply, sel_eq _ _ (by omega) hn]

variable (H : In Ideal)

/-- The stacked queries: group `g`'s rows hold group `g`'s lanes and zero elsewhere. -/
theorem qs_apply (g g' : Fin 4) (r : Fin 128) (d : Fin 64) :
    H.qs (ix2 (rw4 g r) (ln g' d)) = if g' = g then H.q (ix3 0 r (ln g d)) else 0 := by
  unfold In.qs
  pointwise [k0_pay8]
  refine (stack_apply (fun g0 r0 => Scalar.select (IntOp.cmpi .eq (lane (ix2 0 (ln g' d))) (BitVec.ofNat 32 g0.val))
    (H.q (ix3 0 r0 (ln g' d))) 0) g r).trans ?_
  rw [lane_sel _ (by omega), ln_div]
  by_cases h : g' = g
  · rw [if_pos h, if_pos (by rw [h]), h]
  · rw [if_neg h, if_neg (fun e => h (Fin.ext e))]

/-- The lanes of head `hh` of a block on every group's lanes. -/
theorem spread (x : S1x128x256.Idx → EReal) (hh : Fin 4) (g : Fin 4) (d : Fin 64) (c : Fin 128) :
    (fun l => Scalar.select (hsel (BitVec.ofNat 32 hh.val) (ix2 0 l)) (x (ix3 0 c l)) 0) (ln g d) +
      (fun l => Scalar.select (hsel (BitVec.ofNat 32 hh.val) (ix2 0 l)) (x (ix3 0 c l)) 0)
        ⟨((ln g d).val + 256 - 128) % 256, Nat.mod_lt _ (by decide)⟩ +
      ((fun l => Scalar.select (hsel (BitVec.ofNat 32 hh.val) (ix2 0 l)) (x (ix3 0 c l)) 0)
        ⟨((ln g d).val + 256 - 64) % 256, Nat.mod_lt _ (by decide)⟩ +
      (fun l => Scalar.select (hsel (BitVec.ofNat 32 hh.val) (ix2 0 l)) (x (ix3 0 c l)) 0)
        ⟨(((ln g d).val + 256 - 64) % 256 + 256 - 128) % 256, Nat.mod_lt _ (by decide)⟩) = x (ix3 0 c (ln hh d)) := by
  refine (fold4 (fun l => Scalar.select (hsel (BitVec.ofNat 32 hh.val) (ix2 0 l)) (x (ix3 0 c l)) 0) hh
    (fun l hl => by rw [hsel_sel, if_neg hl]) g d).trans ?_
  rw [hsel_sel, if_pos (ln_div _ _)]

/-- One block's lanes of head `hh` on every group's lanes, -/
theorem one_apply (x : Vec Ideal S1x128x256 .f32) (hh : Fin 4) (c : Fin 128) (g : Fin 4) (d : Fin 64) :
    k0_pay21 (hsel (BitVec.ofNat 32 hh.val)) x (ix2 c (ln g d)) = x (ix3 0 c (ln hh d)) := by
  pointwise [k0_pay21]
  exact spread x hh g d c

/-- and two blocks', one after the other. -/
theorem two_apply (x y : Vec Ideal S1x128x256 .f32) (hh : Fin 4) (j : Fin 256) (g : Fin 4) (d : Fin 64) :
    k0_pay10 lane (BitVec.ofNat 32 hh.val) x y (ix2 j (ln g d))
      = two (fun c => x (ix3 0 c (ln hh d))) (fun c => y (ix3 0 c (ln hh d))) j := by
  pointwise [k0_pay10, k0_pay9]
  exact two_congr (fun c => spread x hh g d c) (fun c => spread y hh g d c) j

/-- The band's mask is the sliding window. -/
theorem band_sel {α : Type} (i : grid0.Coords) (g : Fin 4) (r : Fin 128) (j : Fin 256) (x y : α) :
    Scalar.select (k0_pay3 i (ix2 (rw4 g r) j)) x y = if Sees (decide (2 ≤ (i 1).val)) r j then x else y := by
  have e : k0_pay3 i (ix2 (rw4 g r) j) =
      IntOp.ori (IntOp.andi (IntOp.andi (IntOp.cmpi .slt (BitVec.ofNat 32 j.val) (BitVec.ofNat 32 128))
          (IntOp.cmpi .sgt (BitVec.ofNat 32 j.val) (rowIn (rw4 g r)))) (IntOp.cmpi .sge (BitVec.ofNat 32 (i 1).val) (BitVec.ofNat 32 2)))
        (IntOp.andi (IntOp.cmpi .sge (BitVec.ofNat 32 j.val) (BitVec.ofNat 32 128))
          (IntOp.cmpi .sle (IntOp.subi (BitVec.ofNat 32 j.val) (BitVec.ofNat 32 128)) (rowIn (rw4 g r)))) := by
    pointwise [k0_pay3]
    rfl
  have hi : (i 1).val < 33 := (i 1).isLt
  have er : (rw4 g r).val % 128 = r.val := by simp only [rw4]; omega
  rw [e, rowIn_eq, er, cmpi_slt_ofNat (by omega) (by omega), cmpi_sgt_ofNat (by omega) (by omega),
    cmpi_sge_ofNat (by omega) (by omega), cmpi_sge_ofNat (by omega) (by omega)]
  unfold Sees
  by_cases h : 128 ≤ j.val
  · have es : IntOp.subi (BitVec.ofNat 32 j.val) (BitVec.ofNat 32 128) = BitVec.ofNat 32 (j.val - 128) := by
      have := j.isLt
      apply BitVec.eq_of_toNat_eq
      simp [IntOp.subi, BitVec.toNat_sub]; omega
    rw [es, cmpi_sle_ofNat (by omega) (by omega)]
    have hlt : ¬ j.val < 128 := Nat.not_lt.mpr h
    by_cases h2 : j.val - 128 ≤ r.val
    · simp only [h, h2, hlt, decide_true, decide_false]
      simp [IntOp.ori, IntOp.andi, Scalar.select]
    · simp only [h, h2, hlt, decide_true, decide_false]
      simp [IntOp.ori, IntOp.andi, Scalar.select]
  · by_cases h1 : r.val < j.val
    · by_cases h2 : 2 ≤ (i 1).val
      · simp [h, h1, h2, IntOp.ori, IntOp.andi, Scalar.select, Nat.not_le.mp h]
      · simp [h, h1, h2, IntOp.ori, IntOp.andi, Scalar.select, Nat.not_le.mp h]
    · simp [h, h1, IntOp.ori, IntOp.andi, Scalar.select, Nat.not_le.mp h]

/-- The mask of the first block keeps the meta tokens. -/
theorem meta_sel {α : Type} (ρ : Fin 512) (c : Fin 128) (x y : α) :
    Scalar.select (k0_pay2 (ix2 ρ c)) x y = if 112 ≤ c.val then x else y := by
  have e : k0_pay2 (ix2 ρ c) = IntOp.cmpi .sge (BitVec.ofNat 32 c.val) (BitVec.ofNat 32 112) := by
    pointwise [k0_pay2]
  rw [e, cmpi_sge_ofNat (by omega) (by omega)]
  by_cases h : 112 ≤ c.val <;> simp [h, Scalar.select]

end Cert.Kernel6Ideal.Attn

end

end
-- ==== Proof.Attn.Val.lean ====
/- What each stage of a head computes over the extended reals. -/
module

public import proofs.«01_k».proof.Proof.Attn.Read

@[expose] public section

set_option maxRecDepth 16384

noncomputable section

namespace Cert.Attn

open Idealize.ShloMosaic

/-- The scale of the scores, an eighth. -/
def eighth : EReal := Ideal.ofBits .f32 0x3E000000#32

/-- The scaled score of a query against a key. -/
def score (q k : Fin 64 → EReal) : EReal := (∑ d, q d * k d) * eighth

end Cert.Attn

namespace Cert.Kernel6Ideal.Attn

open Cert.Kernel6Ideal Cert.Kernel6Ideal.Gen Cert.Attn
open Idealize.ShloMosaic Idealize.ShloMosaic.TcCoe Idealize.ShloMosaic.Tactic

/-- The word of minus infinity. -/
theorem ofBits_bot : Ideal.ofBits .f32 0xFF800000#32 = ⊥ := by
  simp [Ideal.ofBits, Ideal.ieee]

/-- The word of one. -/
theorem ofBits_one : Ideal.ofBits .f32 0x3F800000#32 = 1 := by
  simp [Ideal.ofBits, Ideal.ieee, -EReal.coe_mul]; norm_num

/-- The named mask is minus infinity. -/
theorem mask_bot : (masked (F := Ideal) : EReal) = ⊥ := rfl

variable (H : In Ideal) (hh : Fin 4)

/-- The query of row `r` of group `g`, -/
def In.qrow (g : Fin 4) (r : Fin 128) (d : Fin 64) : EReal := H.q (ix3 0 r (ln g d))
/-- the keys and the values of the first block, -/
def In.key0 (c : Fin 128) (d : Fin 64) : EReal := H.k0 (ix3 0 c (ln hh d))
/-- The values of the first block for one head. -/
def In.val0 (c : Fin 128) (d : Fin 64) : EReal := H.v0 (ix3 0 c (ln hh d))
/-- those of the band, -/
def In.key1 (j : Fin 256) (d : Fin 64) : EReal := two (fun c => H.kp (ix3 0 c (ln hh d))) (fun c => H.kc (ix3 0 c (ln hh d))) j
/-- The values of the band for one head. -/
def In.val1 (j : Fin 256) (d : Fin 64) : EReal := two (fun c => H.vp (ix3 0 c (ln hh d))) (fun c => H.vc (ix3 0 c (ln hh d))) j
/-- and the group's sink. -/
def In.sinkOf (g : Fin 4) : EReal := match g with
  | 0 => H.a
  | 1 => H.b
  | 2 => H.c
  | 3 => H.d

variable (hH : H.h = BitVec.ofNat 32 hh.val)
include hH

/-- The scores against the first block, masked off the meta tokens. -/
theorem s0_val (g : Fin 4) (r c : Fin 128) :
    H.s0 (ix2 (rw4 g r) c) = if 112 ≤ c.val then score (H.qrow g r) (H.key0 hh c) else ⊥ := by
  have e : H.s0 (ix2 (rw4 g r) c) = Scalar.select (k0_pay2 (ix2 (rw4 g r) c))
      ((∑ l, H.qs (ix2 (rw4 g r) l) * H.k0x (ix2 c l)) * eighth) (masked (F := Ideal) : EReal) := by
    have e' : H.s0 = select k0_pay2 (mulf
        (matmul dot_S512x256_S128x256_S512x128_1_1_0_0_n_n none H.qs H.k0x (constant S512x128 .f32 0x00000000#32))
        (broadcast S512x128 (Scalar.ofBits .f32 0x3E000000#32))) (broadcast S512x128 masked) := rfl
    rw [e']
    unfold eighth
    generalize H.k0x = K
    generalize H.qs = K'
    generalize (masked (F := Ideal)) = M
    pointwise []
  rw [e, meta_sel, mask_bot, sum_ln]
  unfold In.k0x
  simp only [qs_apply, hH, one_apply]
  exact congrArg (fun x : EReal => if 112 ≤ c.val then x * eighth else ⊥)
    (sum_group g (H.qrow g r) (fun _ d => H.key0 hh c d))

/-- The scores against the band, masked off the window. -/
theorem s1_val (g : Fin 4) (r : Fin 128) (j : Fin 256) :
    H.s1 (ix2 (rw4 g r) j) = if Sees (decide (2 ≤ (H.i 1).val)) r j then score (H.qrow g r) (H.key1 hh j) else ⊥ := by
  have e : H.s1 (ix2 (rw4 g r) j) = Scalar.select (k0_pay3 H.i (ix2 (rw4 g r) j))
      ((∑ l, H.qs (ix2 (rw4 g r) l) * H.k1x (ix2 j l)) * eighth) (masked (F := Ideal) : EReal) := by
    have e' : H.s1 = select (k0_pay3 H.i) (mulf
        (matmul dot_S512x256_S256x256_S512x256_1_1_0_0_n_n none H.qs H.k1x (constant S512x256 .f32 0x00000000#32))
        (broadcast S512x256 (Scalar.ofBits .f32 0x3E000000#32))) (broadcast S512x256 masked) := rfl
    rw [e']
    unfold eighth
    generalize H.k1x = K
    generalize H.qs = K'
    generalize (masked (F := Ideal)) = M
    pointwise []
  rw [e, band_sel, mask_bot, sum_ln]
  unfold In.k1x
  simp only [qs_apply, hH, two_apply]
  exact congrArg (fun x : EReal => if Sees (decide (2 ≤ (H.i 1).val)) r j then x * eighth else ⊥)
    (sum_group g (H.qrow g r) (fun _ d => H.key1 hh j d))

omit hH

/-- The group of each stacked row, as the sinks' column counts it. -/
theorem row_apply : ∀ ρ : Fin 512, k0_pay14 (ix2 ρ 0) = BitVec.ofNat 32 (ρ.val / 128) := by decide +kernel

/-- The sinks' column. -/
theorem sink_val (g : Fin 4) (r : Fin 128) : H.sink (ix2 (rw4 g r) 0) = H.sinkOf g := by
  have e : H.sink (ix2 (rw4 g r) 0) =
      Scalar.select (IntOp.cmpi .eq (k0_pay14 (ix2 (rw4 g r) 0)) (BitVec.ofNat 32 3)) H.d
        (Scalar.select (IntOp.cmpi .eq (k0_pay14 (ix2 (rw4 g r) 0)) (BitVec.ofNat 32 2)) H.c
          (Scalar.select (IntOp.cmpi .eq (k0_pay14 (ix2 (rw4 g r) 0)) (BitVec.ofNat 32 1)) H.b
            (Scalar.select (IntOp.cmpi .eq (k0_pay14 (ix2 (rw4 g r) 0)) (BitVec.ofNat 32 0)) H.a
              (Ideal.ofBits .f32 0x00000000#32)))) := rfl
  rw [e, row_apply, rw4_div, sel_eq _ _ (by omega) (by omega), sel_eq _ _ (by omega) (by omega),
    sel_eq _ _ (by omega) (by omega), sel_eq _ _ (by omega) (by omega)]
  fin_cases g <;> simp [In.sinkOf]

/-- The maximum a row subtracts. -/
theorem max_val (g : Fin 4) (r : Fin 128) : H.max (ix2 (rw4 g r) 0) =
    Max.max (Max.max (Finset.univ.fold Max.max ⊥ fun c => H.s0 (ix2 (rw4 g r) c))
      (Finset.univ.fold Max.max ⊥ fun j => H.s1 (ix2 (rw4 g r) j))) (H.sinkOf g) := by
  rw [← sink_val H g r]
  unfold In.max In.sink
  generalize hk : k0_pay16 k0_pay14 (k0_pay15 H.a H.b) H.c H.d = K
  unfold k0_pay17
  rw [hk]
  pointwise []
  rw [ofBits_bot]

/-- The exponentials of the scores against the first block, -/
theorem p0_val (g : Fin 4) (r c : Fin 128) :
    H.p0 (ix2 (rw4 g r) c) = Ideal.exp (H.s0 (ix2 (rw4 g r) c) - H.max (ix2 (rw4 g r) 0)) := by
  unfold In.p0 In.max k0_pay18
  generalize k0_pay17 H.s0 H.s1 k0_pay14 (k0_pay15 H.a H.b) H.c H.d = K
  pointwise []

/-- and against the band. -/
theorem p1_val (g : Fin 4) (r : Fin 128) (j : Fin 256) :
    H.p1 (ix2 (rw4 g r) j) = Ideal.exp (H.s1 (ix2 (rw4 g r) j) - H.max (ix2 (rw4 g r) 0)) := by
  unfold In.p1 In.max k0_pay19
  generalize k0_pay17 H.s0 H.s1 k0_pay14 (k0_pay15 H.a H.b) H.c H.d = K
  pointwise []

/-- The softmax's denominators. -/
theorem den_val (g : Fin 4) (r : Fin 128) : H.den (ix2 (rw4 g r) 0) =
    ∑ c, H.p0 (ix2 (rw4 g r) c) + ∑ j, H.p1 (ix2 (rw4 g r) j) + Ideal.exp (H.sinkOf g - H.max (ix2 (rw4 g r) 0)) := by
  rw [← sink_val H g r]
  unfold In.den In.p0 In.p1 In.max In.sink k0_pay20
  generalize k0_pay18 H.s0 H.s1 k0_pay14 (k0_pay15 H.a H.b) H.c H.d = K
  generalize k0_pay19 H.s0 H.s1 k0_pay14 (k0_pay15 H.a H.b) H.c H.d = K'
  generalize k0_pay17 H.s0 H.s1 k0_pay14 (k0_pay15 H.a H.b) H.c H.d = K''
  generalize k0_pay16 k0_pay14 (k0_pay15 H.a H.b) H.c H.d = K'''
  pointwise []

include hH

/-- The attended values, the four groups stacked. -/
theorem os_val (g : Fin 4) (r : Fin 128) (d : Fin 64) : H.os (ix2 (rw4 g r) (ln g d)) =
    (∑ c, H.p0 (ix2 (rw4 g r) c) * H.val0 hh c d + ∑ j, H.p1 (ix2 (rw4 g r) j) * H.val1 hh j d) *
      Ideal.div 1 (H.den (ix2 (rw4 g r) 0)) := by
  have e : H.os (ix2 (rw4 g r) (ln g d)) =
      (∑ c, H.p0 (ix2 (rw4 g r) c) * H.v0x (ix2 c (ln g d)) + ∑ j, H.p1 (ix2 (rw4 g r) j) * H.v1x (ix2 j (ln g d))) *
        Ideal.div 1 (H.den (ix2 (rw4 g r) 0)) := by
    have e' : H.os = mulf (addf
        (matmul dot_S512x128_S128x256_S512x256_1_0_0_1_n_n none (truncf .bf16 H.p0 bitsLt_bf16_f32) H.v0x (constant S512x256 .f32 0x00000000#32))
        (matmul dot_S512x256_S256x256_S512x256_1_0_0_1_n_n none (truncf .bf16 H.p1 bitsLt_bf16_f32) H.v1x (constant S512x256 .f32 0x00000000#32)))
        (broadcastTo S512x256 (divf (broadcast S512x1 (Scalar.ofBits .f32 0x3F800000#32)) H.den) broadcasts_S512x1_S512x256) := rfl
    rw [e', ← ofBits_one]
    generalize H.v0x = K
    generalize H.v1x = K'
    generalize H.p0 = P0
    generalize H.p1 = P1
    generalize H.den = D
    pointwise []
  rw [e]
  unfold In.v0x In.v1x
  simp only [hH, one_apply, two_apply]
  rfl

omit hH

/-- The attended values of a group's lanes. -/
theorem out_val (g : Fin 4) (r : Fin 128) (d : Fin 64) : H.out (ix3 0 r (ln g d)) = H.os (ix2 (rw4 g r) (ln g d)) := by
  have e : H.out (ix3 0 r (ln g d)) =
      Scalar.select (IntOp.cmpi .eq (lane (ix2 0 (ln g d))) (BitVec.ofNat 32 0)) (H.os (ix2 (rw4 0 r) (ln g d))) 0 +
      Scalar.select (IntOp.cmpi .eq (lane (ix2 0 (ln g d))) (BitVec.ofNat 32 1)) (H.os (ix2 (rw4 1 r) (ln g d))) 0 +
      Scalar.select (IntOp.cmpi .eq (lane (ix2 0 (ln g d))) (BitVec.ofNat 32 2)) (H.os (ix2 (rw4 2 r) (ln g d))) 0 +
      Scalar.select (IntOp.cmpi .eq (lane (ix2 0 (ln g d))) (BitVec.ofNat 32 3)) (H.os (ix2 (rw4 3 r) (ln g d))) 0 := by
    unfold In.out k0_pay23 k0_pay24 zero rw4
    change k0_pay26 lane H.os _ _ _ _ _ = _
    rw [show k0_pay22 (hsel H.h) H.p0 H.p1 H.den H.v0x H.vp H.vc = H.os from rfl]
    generalize H.os = K
    pointwise [k0_pay26, k0_pay25]
  rw [e, lane_sel _ (by omega), lane_sel _ (by omega), lane_sel _ (by omega), lane_sel _ (by omega), ln_div]
  fin_cases g <;> simp

end Cert.Kernel6Ideal.Attn

end

end
-- ==== Proof.Math.Reals.lean ====
/- Extended reals that are real: sums, quotients and the softmax's exponentials. -/
module

public import Idealize.ShloMosaic.PureOps.Ideal
public import Idealize.ShloMosaic.PureOps.Ideal.Laws

@[expose] public section

namespace Cert.Attn

open Idealize.ShloMosaic

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a real other than zero. -/
theorem div_coe (x y : ℝ) (h : y ≠ 0) : Ideal.div (x : EReal) (y : EReal) = ((x / y : ℝ) : EReal) := by
  have h' : (y : EReal) ≠ 0 := by exact_mod_cast h
  rw [Ideal.div, if_neg h', ← EReal.coe_inv, ← EReal.coe_mul, div_eq_mul_inv]

/-- Zero divided by anything but zero. -/
theorem zero_div' (y : EReal) (h : y ≠ 0) : Ideal.div 0 y = 0 := by
  rw [Ideal.div, if_neg h, zero_mul]

/-- The exponential of a masked score less a real. -/
theorem exp_masked (p : Prop) [Decidable p] (x μ : ℝ) :
    Ideal.exp ((if p then (x : EReal) else ⊥) - (μ : EReal)) = (((if p then Real.exp x else 0) * Real.exp (-μ) : ℝ) : EReal) := by
  split
  · rw [← EReal.coe_sub, Ideal.exp_coe, ← Real.exp_add, sub_eq_add_neg]
  · rw [EReal.bot_sub, Ideal.exp_bot, zero_mul, EReal.coe_zero]

/-- The exponential of a real less a real. -/
theorem exp_real (x μ : ℝ) : Ideal.exp ((x : EReal) - (μ : EReal)) = ((Real.exp x * Real.exp (-μ) : ℝ) : EReal) := by
  rw [← EReal.coe_sub, Ideal.exp_coe, ← Real.exp_add, sub_eq_add_neg]

/-- The largest of finitely many values below `⊤` lies below `⊤`. -/
theorem fold_max_ne_top {ι : Type*} (s : Finset ι) (f : ι → EReal) (h : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a
    · exact ih

/-- The largest of finitely many values is one of them. -/
theorem fold_max_mem {ι : Type*} (s : Finset ι) (hs : s.Nonempty) (f : ι → EReal) : ∃ i ∈ s, f i = s.fold max ⊥ f := by
  classical
  induction hs using Finset.Nonempty.cons_induction with
  | singleton a => exact ⟨a, Finset.mem_singleton_self a, by simp⟩
  | cons a s ha hs ih =>
    rw [Finset.fold_cons]
    rcases max_choice (f a) (s.fold max ⊥ f) with e | e <;> rw [e]
    · exact ⟨a, Finset.mem_cons_self a s, rfl⟩
    · obtain ⟨i, hi, e'⟩ := ih
      exact ⟨i, Finset.mem_cons.mpr (.inr hi), e'⟩

/-- The maximum of values below `⊤` and a real is a real. -/
theorem max_real (x y : EReal) (z : ℝ) (hx : x ≠ ⊤) (hy : y ≠ ⊤) : ∃ μ : ℝ, max (max x y) (z : EReal) = (μ : EReal) := by
  have h1 : max (max x y) (z : EReal) ≠ ⊤ := by
    intro h
    rcases max_choice (max x y) (z : EReal) with e | e <;> rw [e] at h
    · rcases max_choice x y with e | e <;> rw [e] at h
      · exact hx h
      · exact hy h
    · exact EReal.coe_ne_top z h
  have h2 : max (max x y) (z : EReal) ≠ ⊥ := by
    intro h
    exact absurd (le_max_right (max x y) (z : EReal)) (by rw [h]; simp)
  exact ⟨_, (EReal.coe_toReal h1 h2).symm⟩

/-- A masked score lies below `⊤`. -/
theorem masked_ne_top (p : Prop) [Decidable p] (x : ℝ) : (if p then (x : EReal) else ⊥) ≠ ⊤ := by
  split
  · exact EReal.coe_ne_top x
  · exact bot_ne_top

end Cert.Attn

end
-- ==== Proof.Attn.Soft.lean ====
/- The softmax with a sink of one query, as the kernel divides it and as the mathematics does. -/
module

public import proofs.«01_k».proof.Proof.Math.Reals
public import proofs.«01_k».proof.Proof.Ffn.Row

@[expose] public section

noncomputable section

namespace Cert.Attn

open Idealize.ShloMosaic
open Cert.Ffn (IsReal)

/-- The largest of a row of scores. -/
def top {n : ℕ} (s : Fin n → EReal) : EReal := Finset.univ.fold max ⊥ s

/-- One query's attention over two sets of keys and a sink: the exponentials of the scores `x` and `y`, less the largest of
    all, weigh the values `u` and `v`, and the result is divided by the exponentials' sum, to which the sink adds its own. -/
def att {a b : ℕ} (x : Fin a → EReal) (y : Fin b → EReal) (z : EReal) (u : Fin a → EReal) (v : Fin b → EReal) : EReal :=
  Ideal.div (∑ i, Ideal.exp (x i - max (max (top x) (top y)) z) * u i + ∑ i, Ideal.exp (y i - max (max (top x) (top y)) z) * v i)
    (∑ i, Ideal.exp (x i - max (max (top x) (top y)) z) + ∑ i, Ideal.exp (y i - max (max (top x) (top y)) z) +
      Ideal.exp (z - max (max (top x) (top y)) z))

/-- The same with a product by the denominator's inverse in the quotient's place. -/
def attInv {a b : ℕ} (x : Fin a → EReal) (y : Fin b → EReal) (z : EReal) (u : Fin a → EReal) (v : Fin b → EReal) : EReal :=
  (∑ i, Ideal.exp (x i - max (max (top x) (top y)) z) * u i + ∑ i, Ideal.exp (y i - max (max (top x) (top y)) z) * v i) *
    Ideal.div 1 (∑ i, Ideal.exp (x i - max (max (top x) (top y)) z) + ∑ i, Ideal.exp (y i - max (max (top x) (top y)) z) +
      Ideal.exp (z - max (max (top x) (top y)) z))

/-- An exponential is not negative. -/
theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

/-- Multiplying by an inverse is dividing, where the denominator is not zero. -/
theorem div_inv (x y : EReal) (h : y ≠ 0) : x * Ideal.div 1 y = Ideal.div x y := by
  rw [Ideal.div, Ideal.div, if_neg h, if_neg h, one_mul]

/-- The order of the two sets of keys does not matter. -/
theorem att_swap {a b : ℕ} (x : Fin a → EReal) (y : Fin b → EReal) (z : EReal) (u : Fin a → EReal) (v : Fin b → EReal) :
    att x y z u v = att y x z v u := by
  unfold att
  rw [max_comm (top x) (top y), add_comm (∑ i, Ideal.exp (x i - max (max (top y) (top x)) z) * u i),
    add_comm (∑ i, Ideal.exp (x i - max (max (top y) (top x)) z))]

/-- The two forms agree where the scores lie below `⊤` and the sink is real: the denominator is then positive. -/
theorem attInv_eq {a b : ℕ} (x : Fin a → EReal) (y : Fin b → EReal) (z : EReal) (u : Fin a → EReal) (v : Fin b → EReal)
    (hx : ∀ i, x i ≠ ⊤) (hy : ∀ i, y i ≠ ⊤) (hz : IsReal z) : attInv x y z u v = att x y z u v := by
  obtain ⟨z, rfl⟩ := hz
  obtain ⟨μ, hμ⟩ := max_real (top x) (top y) z (fold_max_ne_top _ _ hx) (fold_max_ne_top _ _ hy)
  unfold attInv att
  rw [hμ]
  refine div_inv _ _ (ne_of_gt ?_)
  refine lt_of_lt_of_le ?_ (le_add_of_nonneg_left (add_nonneg (Finset.sum_nonneg fun i _ => exp_nonneg _)
    (Finset.sum_nonneg fun i _ => exp_nonneg _)))
  rw [← EReal.coe_sub, Ideal.exp_coe]
  exact_mod_cast Real.exp_pos _

/-- A value whose score is masked does not matter. -/
theorem att_vals {a b : ℕ} (x : Fin a → EReal) (y : Fin b → EReal) (z : EReal) (u u' : Fin a → EReal) (v : Fin b → EReal)
    (h : ∀ i, x i ≠ ⊥ → u i = u' i) : att x y z u v = att x y z u' v := by
  unfold att
  rw [Finset.sum_congr rfl fun i _ => show Ideal.exp (x i - max (max (top x) (top y)) z) * u i =
    Ideal.exp (x i - max (max (top x) (top y)) z) * u' i from ?_]
  by_cases e : x i = ⊥
  · rw [e, EReal.bot_sub, Ideal.exp_bot, zero_mul, zero_mul]
  · rw [h i e]

/-- A row of 128 scores of which the first 112 are masked is the row of its last 16. -/
theorem att_tail {b : ℕ} (t : Fin 128 → EReal) (y : Fin b → EReal) (z : EReal) (u : Fin 128 → EReal) (v : Fin b → EReal) :
    att (fun c => if 112 ≤ c.val then t c else ⊥) y z u v =
      att (fun c : Fin 16 => t ⟨112 + c.val, by omega⟩) y z (fun c => u ⟨112 + c.val, by omega⟩) v := by
  have split (f : Fin 128 → EReal) (hf : ∀ c : Fin 128, c.val < 112 → f c = 0) :
      ∑ c, f c = ∑ c : Fin 16, f ⟨112 + c.val, by omega⟩ := by
    refine (Fin.sum_univ_add (a := 112) (b := 16) f).trans ?_
    rw [Finset.sum_eq_zero fun c _ => hf _ (by simp), zero_add]
    rfl
  have etop : top (fun c : Fin 128 => if 112 ≤ c.val then t c else ⊥) = top (fun c : Fin 16 => t ⟨112 + c.val, by omega⟩) := by
    refine le_antisymm (Finset.sup_le fun c _ => ?_) (Finset.sup_le fun c _ => ?_)
    · by_cases h : 112 ≤ c.val
      · simp only [h, if_true]
        have e := Finset.le_sup (f := fun c : Fin 16 => t ⟨112 + c.val, by omega⟩) (Finset.mem_univ (⟨c.val - 112, by omega⟩ : Fin 16))
        refine le_trans (le_of_eq (congrArg t (Fin.ext ?_))) e
        show c.val = 112 + (c.val - 112); omega
      · simp [h]
    · refine le_trans (le_of_eq ?_) (Finset.le_sup (f := fun c : Fin 128 => if 112 ≤ c.val then t c else ⊥)
        (Finset.mem_univ (⟨112 + c.val, by omega⟩ : Fin 128)))
      simp
  unfold att
  rw [etop, split, split]
  · simp
  · intro c h
    dsimp only
    rw [if_neg (show ¬ 112 ≤ c.val by omega), EReal.bot_sub, Ideal.exp_bot]
  · intro c h
    dsimp only
    rw [if_neg (show ¬ 112 ≤ c.val by omega), EReal.bot_sub, Ideal.exp_bot, zero_mul]

end Cert.Attn

end

end
-- ==== Proof.Attn.Block.lean ====
/- What one grid point of the attention leaves in its block. -/
module

public import proofs.«01_k».proof.Proof.Attn.Heads
public import proofs.«01_k».proof.Proof.Attn.Val
public import proofs.«01_k».proof.Proof.Attn.Soft

@[expose] public section

set_option maxRecDepth 16384

noncomputable section

namespace Cert.Kernel6Ideal.Attn

open Cert.Kernel6Ideal Cert.Kernel6Ideal.Gen Cert.Attn
open Idealize.ShloMosaic Idealize.ShloMosaic.TcCoe Idealize.ShloMosaic.Tactic

/-- The lane of head `h`'s group `g` among all queries' lanes, -/
def chan (h g : Fin 4) (d : Fin 64) : Fin 1024 := ⟨256 * h.val + 64 * g.val + d.val, by omega⟩
/-- and the sink of that group. -/
def snk (h g : Fin 4) : Fin 16 := ⟨4 * h.val + g.val, by omega⟩

/-- A head's result, row by row. -/
theorem head_val (H : In Ideal) (hh : Fin 4) (hH : H.h = BitVec.ofNat 32 hh.val) (g : Fin 4) (r : Fin 128) (d : Fin 64) :
    H.out (ix3 0 r (ln g d)) =
      attInv (fun c => if 112 ≤ c.val then score (H.qrow g r) (H.key0 hh c) else ⊥)
        (fun j => if Sees (decide (2 ≤ (H.i 1).val)) r j then score (H.qrow g r) (H.key1 hh j) else ⊥) (H.sinkOf g)
        (fun c => H.val0 hh c d) (fun j => H.val1 hh j d) := by
  rw [out_val, os_val H hh hH, den_val]
  simp only [p0_val, p1_val, max_val, s0_val H hh hH, s1_val H hh hH]
  rfl

section
variable (i : grid0.Coords) (x0 : Vec Ideal S1x128x1024 .f32) (x1 x2 x3 x4 x5 x6 : Vec Ideal S1x128x256 .f32) (x7 : Vec Ideal S1x16 .f32)

/-- One element of a grid point's block: row `r`, head `h`, group `g` of queries, lane `d`. -/
def blockVal (h g : Fin 4) (r : Fin 128) (d : Fin 64) : EReal :=
  attInv (fun c => if 112 ≤ c.val then score (fun e => x0 (ix3 0 r (chan h g e))) (fun e => x1 (ix3 0 c (ln h e))) else ⊥)
    (fun j => if Sees (decide (2 ≤ (i 1).val)) r j then score (fun e => x0 (ix3 0 r (chan h g e)))
        (fun e => two (fun c => x2 (ix3 0 c (ln h e))) (fun c => x3 (ix3 0 c (ln h e))) j) else ⊥)
    (x7 (ix2 0 (snk h g))) (fun c => x4 (ix3 0 c (ln h d)))
    (fun j => two (fun c => x5 (ix3 0 c (ln h d))) (fun c => x6 (ix3 0 c (ln h d))) j)

variable (c : Dev nD) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .smem S1x16 .f32) (harg9 : arg9.IsWhole) (arg10 : Memref sig .tc .vmem S1x128x1024 .f32) (harg10 : arg10.IsWhole)

/-- A load of the whole of a block reads the block. -/
theorem whole_apply (a : Memref sig .tc .vmem S1x128x256 .f32) (ha : a.IsWhole) (x : Vec Ideal S1x128x256 .f32) (y : S1x128x256.Idx) :
    View.readAt (Elt Ideal) a.view (Rect.unit (s := S1x128x256) ![0, 0, 0] S1x128x256.size inb_S1x128x256_S1x128x256_0_0_0).toLoadRect
      (ha.unread x) y = x y := by
  rw [View.readAt_eq_ld, Memref.IsWhole.read_unread]
  idx_vars y
  obtain rfl : y0 = 0 := Subsingleton.elim _ _
  pointwise

/-- A load of a head's queries reads their lanes, -/
theorem query_apply (hh : Fin 4) (hn : ∀ a, (![0, 0, 256 * hh.val] : Fin 3 → Nat) a + S1x128x256.size a ≤ S1x128x1024.size a)
    (g : Fin 4) (r : Fin 128) (e : Fin 64) :
    View.readAt (Elt Ideal) arg2.view (Rect.unit (s := S1x128x1024) ![0, 0, 256 * hh.val] S1x128x256.size hn).toLoadRect
      (harg2.unread x0) (ix3 0 r (ln g e)) = x0 (ix3 0 r (chan hh g e)) := by
  rw [View.readAt_eq_ld, Memref.IsWhole.read_unread]
  have e' : chan hh g e = ⟨256 * hh.val + (64 * g.val + e.val), by omega⟩ := Fin.ext (by simp only [chan]; omega)
  rw [e']
  unfold ln
  pointwise

/-- and a load of one sink reads it. -/
theorem sink_apply (k : ℕ) (hk : k < 16) (hin : ∀ a, (![0, k] : Fin 2 → Nat) a + S1x1.size a ≤ S1x16.size a) (y : S1x1.Idx) :
    View.readAt (Elt Ideal) arg9.view (Rect.unit (s := S1x16) ![0, k] S1x1.size hin).toLoadRect
      (harg9.unread x7) y = x7 (ix2 0 ⟨k, hk⟩) := by
  rw [View.readAt_eq_ld, Memref.IsWhole.read_unread]
  idx_vars y
  obtain rfl : y0 = 0 := Subsingleton.elim _ _
  obtain rfl : y1 = 0 := Subsingleton.elim _ _
  pointwise

/-- What a head leaves of a grid point's blocks. -/
theorem mk_out (hh : Fin 4) (h : BitVec 32) (n n0 n1 n2 n3 : ℕ) hn hn0 hn1 hn2 hn3 (eh : h = BitVec.ofNat 32 hh.val) (en : n = 256 * hh.val)
    (e0 : n0 = 4 * hh.val) (e1 : n1 = 4 * hh.val + 1) (e2 : n2 = 4 * hh.val + 2) (e3 : n3 = 4 * hh.val + 3)
    (g : Fin 4) (r : Fin 128) (d : Fin 64) :
    (mk (F := Ideal) i arg2 harg2 arg3 harg3 arg4 harg4 arg5 harg5 arg6 harg6 arg7 harg7 arg8 harg8 arg9 harg9 x0 x1 x2 x3 x4 x5 x6 x7
      h n n0 n1 n2 n3 hn hn0 hn1 hn2 hn3).out (ix3 0 r (ln g d)) = blockVal i x0 x1 x2 x3 x4 x5 x6 x7 hh g r d := by
  subst en e0 e1 e2 e3
  rw [head_val _ hh eh]
  have eq (e : Fin 64) := query_apply x0 arg2 harg2 hh hn g r e
  generalize hM : mk (F := Ideal) i arg2 harg2 arg3 harg3 arg4 harg4 arg5 harg5 arg6 harg6 arg7 harg7 arg8 harg8 arg9 harg9 x0 x1 x2 x3 x4 x5 x6 x7
      h (256 * hh.val) (4 * hh.val) (4 * hh.val + 1) (4 * hh.val + 2) (4 * hh.val + 3) hn hn0 hn1 hn2 hn3 = M
  have hq : M.qrow g r = fun e => x0 (ix3 0 r (chan hh g e)) := by
    subst hM; funext e; exact eq e
  have h0 (c : Fin 128) : M.key0 hh c = fun e => x1 (ix3 0 c (ln hh e)) := by
    subst hM; funext e; exact whole_apply _ _ _ _
  have h1 (j : Fin 256) : M.key1 hh j = fun e => two (fun c => x2 (ix3 0 c (ln hh e))) (fun c => x3 (ix3 0 c (ln hh e))) j := by
    subst hM; funext e; exact two_congr (fun c => whole_apply _ _ _ _) (fun c => whole_apply _ _ _ _) j
  have u0 (c : Fin 128) : M.val0 hh c d = x4 (ix3 0 c (ln hh d)) := by
    subst hM; exact whole_apply _ _ _ _
  have u1 (j : Fin 256) : M.val1 hh j d = two (fun c => x5 (ix3 0 c (ln hh d))) (fun c => x6 (ix3 0 c (ln hh d))) j := by
    subst hM; exact two_congr (fun c => whole_apply _ _ _ _) (fun c => whole_apply _ _ _ _) j
  have hi : M.i = i := by subst hM; rfl
  have hs : M.sinkOf g = x7 (ix2 0 (snk hh g)) := by
    subst hM
    match g with
    | 0 => exact sink_apply x7 arg9 harg9 _ (by omega) _ _
    | 1 => exact sink_apply x7 arg9 harg9 _ (by omega) _ _
    | 2 => exact sink_apply x7 arg9 harg9 _ (by omega) _ _
    | 3 => exact sink_apply x7 arg9 harg9 _ (by omega) _ _
  simp only [hq, h0, h1, u0, u1, hi, hs]
  rfl

end

end Cert.Kernel6Ideal.Attn

end

end
-- ==== Proof.Attn.Array.lean ====
/- What the attention's array holds, as a function of the arguments. -/
module

public import proofs.«01_k».proof.Proof.Attn.Block

@[expose] public section

set_option maxRecDepth 16384

noncomputable section

namespace Cert.Kernel6Ideal.Attn

open Cert.Kernel6Ideal Cert.Kernel6Ideal.Gen Cert.Attn
open Idealize.ShloMosaic Idealize.ShloMosaic.TcCoe Idealize.ShloMosaic.Tactic Idealize.SL.Sem

variable (m : (ℓ : Loc nD τ sig) → Buf (Elt Ideal) ℓ) (c : Dev nD)

/-- A grid point's block, element by element. -/
theorem out8 (t : Fin cfg0.N) (h g : Fin 4) (r : Fin 128) (d : Fin 64) : outsAt0 m c t (ix3 0 r (chan h g d)) =
    blockVal (grid0.coords t) (iblk m c 0 t) (iblk m c 1 t) (iblk m c 2 t) (iblk m c 3 t) (iblk m c 4 t) (iblk m c 5 t) (iblk m c 6 t) (iblk m c 7 t) h g r d := by
  unfold outsAt0 out0_A_8
  rw [View.read_writes_junk_eq_canon, run_stores]
  unfold stores
  have key (k : Fin 4) (n : ℕ) (hn : n = 256 * k.val) (y : S1x128x256.Idx)
      (h0 : r.val = (y 1).val) (h1 : (chan h g d).val = n + (y 2).val) : k = h ∧ y = ix3 0 r (ln g d) := by
    idx_vars y
    simp only [chan] at h1
    have h0 : r.val = y1.val := h0
    have h1 : 256 * h.val + 64 * g.val + d.val = n + y2.val := h1
    obtain rfl : y0 = 0 := Subsingleton.elim _ _
    obtain rfl : r = y1 := Fin.ext h0
    have := (show y2.val < 256 from y2.isLt)
    obtain rfl : k = h := Fin.ext (by omega)
    obtain rfl : y2 = ln g d := Fin.ext (by simp only [ln]; omega)
    exact ⟨rfl, rfl⟩
  canon_tiles y hy using (View.cover_of_tiledBy _ ![1, 128, 256] (by sl_kernel_rfl) _)
  · obtain ⟨rfl, rfl⟩ := key 3 768 rfl y hy1 hy2
    exact mk_out _ _ _ _ _ _ _ _ _ _ _ _ _ _ _ _ _ _ _ _ _ _ _ _ _ 3 _ _ _ _ _ _ _ _ _ _ _ rfl rfl rfl rfl rfl rfl g r d
  · obtain ⟨rfl, rfl⟩ := key 2 512 rfl y hy1 hy2
    exact mk_out _ _ _ _ _ _ _ _ _ _ _ _ _ _ _ _ _ _ _ _ _ _ _ _ _ 2 _ _ _ _ _ _ _ _ _ _ _ rfl rfl rfl rfl rfl rfl g r d
  · obtain ⟨rfl, rfl⟩ := key 1 256 rfl y hy1 hy2
    exact mk_out _ _ _ _ _ _ _ _ _ _ _ _ _ _ _ _ _ _ _ _ _ _ _ _ _ 1 _ _ _ _ _ _ _ _ _ _ _ rfl rfl rfl rfl rfl rfl g r d
  · obtain ⟨rfl, rfl⟩ := key 0 0 rfl y hy1 (hy2.trans (zero_add _).symm)
    exact mk_out _ _ _ _ _ _ _ _ _ _ _ _ _ _ _ _ _ _ _ _ _ _ _ _ _ 0 _ _ _ _ _ _ _ _ _ _ _ rfl rfl rfl rfl rfl rfl g r d

/-- The arguments: the queries, the keys, the keys and values of a projection, and the sinks. -/
abbrev qA : Vec Ideal S2x4224x1024 .f32 := m ((c : Thread nD τ).loc main_arg0)
abbrev kA : Vec Ideal S2x4224x256 .f32 := m ((c : Thread nD τ).loc main_arg1)
abbrev kvA : Vec Ideal S2x4224x512 .f32 := m ((c : Thread nD τ).loc main_arg2)
abbrev sA : Vec Ideal S1x16 .f32 := m ((c : Thread nD τ).loc main_arg3)

/-- A grid point's sequence, its block of rows, and the block before (the first block where there is none). -/
def seqOf (t : Fin cfg0.N) : Fin 2 := ⟨t.val / 33, by have := t.isLt.trans_eq N_0; omega⟩
/-- The block of the batch row that a grid point works on. -/
def nthOf (t : Fin cfg0.N) : Fin 33 := ⟨t.val % 33, by omega⟩
/-- The block before it; the first block has itself. -/
def before (n : Fin 33) : Fin 33 := ⟨n.val - 1, by omega⟩
/-- Row `r` of block `n`. -/
def tok (n : Fin 33) (r : Fin 128) : Fin 4224 := ⟨128 * n.val + r.val, by omega⟩
/-- A lane of the values, which follow the keys. -/
def vln (l : Fin 256) : Fin 512 := ⟨256 + l.val, by omega⟩

/-- Where each window lies at a grid point. -/
theorem idx0 : ∀ t : Fin grid0.N, win0_0.index t = ![t.val / 33, t.val % 33, 0] := by decide +kernel
/-- Which block of its array each window takes at each grid point. -/
theorem idx1 : ∀ t : Fin grid0.N, win0_1.index t = ![t.val / 33, 0, 0] := by decide +kernel
theorem idx2 : ∀ t : Fin grid0.N, win0_2.index t = ![t.val / 33, t.val % 33 - 1, 0] := by decide +kernel
theorem idx3 : ∀ t : Fin grid0.N, win0_3.index t = ![t.val / 33, t.val % 33, 0] := by decide +kernel
theorem idx4 : ∀ t : Fin grid0.N, win0_4.index t = ![t.val / 33, 0, 1] := by decide +kernel
theorem idx5 : ∀ t : Fin grid0.N, win0_5.index t = ![t.val / 33, t.val % 33 - 1, 1] := by decide +kernel
theorem idx6 : ∀ t : Fin grid0.N, win0_6.index t = ![t.val / 33, t.val % 33, 1] := by decide +kernel
theorem idx7 : ∀ t : Fin grid0.N, win0_7.index t = ![0, 0] := by decide +kernel
theorem idx8 : ∀ t : Fin grid0.N, win0_8.index t = ![t.val / 33, t.val % 33, 0] := by decide +kernel
/-- The second grid coordinate is the block's number. -/
theorem nth_eq : ∀ t : Fin grid0.N, (grid0.coords t 1).val = t.val % 33 := by decide +kernel

/-- What each window's block holds. -/
theorem blk0 (t : Fin cfg0.N) (r : Fin 128) (l : Fin 1024) :
    (iblk m c 0 t : Vec Ideal S1x128x1024 .f32) (ix3 0 r l) = qA m c (ix3 (seqOf t) (tok (nthOf t) r) l) := by
  unfold seqOf nthOf tok
  blk_ext [iblk, V, idx0]
/-- The keys of the first block, of the block before and of the point's own block; the values likewise; the sinks. -/
theorem blk1 (t : Fin cfg0.N) (r : Fin 128) (l : Fin 256) :
    (iblk m c 1 t : Vec Ideal S1x128x256 .f32) (ix3 0 r l) = kA m c (ix3 (seqOf t) (tok 0 r) l) := by
  unfold seqOf tok
  blk_ext [iblk, V, idx1]
theorem blk2 (t : Fin cfg0.N) (r : Fin 128) (l : Fin 256) :
    (iblk m c 2 t : Vec Ideal S1x128x256 .f32) (ix3 0 r l) = kA m c (ix3 (seqOf t) (tok (before (nthOf t)) r) l) := by
  unfold seqOf nthOf before tok
  blk_ext [iblk, V, idx2]
theorem blk3 (t : Fin cfg0.N) (r : Fin 128) (l : Fin 256) :
    (iblk m c 3 t : Vec Ideal S1x128x256 .f32) (ix3 0 r l) = kA m c (ix3 (seqOf t) (tok (nthOf t) r) l) := by
  unfold seqOf nthOf tok
  blk_ext [iblk, V, idx3]
theorem blk4 (t : Fin cfg0.N) (r : Fin 128) (l : Fin 256) :
    (iblk m c 4 t : Vec Ideal S1x128x256 .f32) (ix3 0 r l) = kvA m c (ix3 (seqOf t) (tok 0 r) (vln l)) := by
  unfold seqOf tok vln
  blk_ext [iblk, V, idx4]
theorem blk5 (t : Fin cfg0.N) (r : Fin 128) (l : Fin 256) :
    (iblk m c 5 t : Vec Ideal S1x128x256 .f32) (ix3 0 r l) = kvA m c (ix3 (seqOf t) (tok (before (nthOf t)) r) (vln l)) := by
  unfold seqOf nthOf before tok vln
  blk_ext [iblk, V, idx5]
theorem blk6 (t : Fin cfg0.N) (r : Fin 128) (l : Fin 256) :
    (iblk m c 6 t : Vec Ideal S1x128x256 .f32) (ix3 0 r l) = kvA m c (ix3 (seqOf t) (tok (nthOf t) r) (vln l)) := by
  unfold seqOf nthOf tok vln
  blk_ext [iblk, V, idx6]
theorem blk7 (t : Fin cfg0.N) (l : Fin 16) : (iblk m c 7 t : Vec Ideal S1x16 .f32) (ix2 0 l) = sA m c (ix2 0 l) := by
  blk_ext [iblk, V, idx7]

section
variable (q : Vec Ideal S2x4224x1024 .f32) (k : Vec Ideal S2x4224x256 .f32) (kv : Vec Ideal S2x4224x512 .f32) (s : Vec Ideal S1x16 .f32)

/-- The attention of sequence `b`, row `r` of block `n`, head `h`, group `g`, at lane `d`. -/
def headAt (b : Fin 2) (n : Fin 33) (r : Fin 128) (h g : Fin 4) (d : Fin 64) : EReal :=
  attInv (fun c => if 112 ≤ c.val then score (fun e => q (ix3 b (tok n r) (chan h g e))) (fun e => k (ix3 b (tok 0 c) (ln h e))) else ⊥)
    (fun j => if Sees (decide (2 ≤ n.val)) r j then score (fun e => q (ix3 b (tok n r) (chan h g e)))
        (fun e => two (fun c => k (ix3 b (tok (before n) c) (ln h e))) (fun c => k (ix3 b (tok n c) (ln h e))) j) else ⊥)
    (s (ix2 0 (snk h g))) (fun c => kv (ix3 b (tok 0 c) (vln (ln h d))))
    (fun j => two (fun c => kv (ix3 b (tok (before n) c) (vln (ln h d)))) (fun c => kv (ix3 b (tok n c) (vln (ln h d)))) j)

/-- The array that the attention leaves. -/
def outV : Vec Ideal S2x4224x1024 .f32 := fun j =>
  let row : Fin 4224 := j 1
  let l : Fin 1024 := j 2
  headAt q k kv s (j 0) ⟨row.val / 128, by omega⟩ ⟨row.val % 128, by omega⟩ ⟨l.val / 256, by omega⟩ ⟨l.val / 64 % 4, by omega⟩ ⟨l.val % 64, by omega⟩

/-- The result array at one query row, head and channel. -/
theorem outV_apply (b : Fin 2) (n : Fin 33) (r : Fin 128) (h g : Fin 4) (d : Fin 64) :
    outV q k kv s (ix3 b (tok n r) (chan h g d)) = headAt q k kv s b n r h g d := by
  show headAt q k kv s b ⟨(128 * n.val + r.val) / 128, _⟩ ⟨(128 * n.val + r.val) % 128, _⟩ ⟨(256 * h.val + 64 * g.val + d.val) / 256, _⟩
    ⟨(256 * h.val + 64 * g.val + d.val) / 64 % 4, _⟩ ⟨(256 * h.val + 64 * g.val + d.val) % 64, _⟩ = _
  congr 1 <;> refine Fin.ext ?_ <;> simp only <;> omega

end

/-- What a grid point leaves in the result's buffer, entry by entry. -/
theorem at8 (t : Fin cfg0.N) (h g : Fin 4) (r : Fin 128) (d : Fin 64) : outsAt0 m c t (ix3 0 r (chan h g d)) =
    headAt (qA m c) (kA m c) (kvA m c) (sA m c) (seqOf t) (nthOf t) r h g d := by
  rw [out8]
  unfold blockVal headAt
  simp only [blk0, blk1, blk2, blk3, blk4, blk5, blk6, blk7, nth_eq]
  rfl

/-- After the whole grid the result array is the attention of every block. -/
theorem final8 : (dats m 0 c).arrAt 8 cfg0.N = outV (qA m c) (kA m c) (kvA m c) (sA m c) := by
  refine (dats m 0 c).arrAt_eq_of_covers 8 _ (by decide +kernel) fun t hf y => ?_
  blk_simp
  rw [after0_8]
  idx_vars y
  obtain rfl : y0 = 0 := Subsingleton.elim _ _
  obtain ⟨h, g, d, rfl⟩ : ∃ h g d, y2 = chan h g d := ⟨⟨y2.val / 256, by omega⟩, ⟨y2.val / 64 % 4, by omega⟩, ⟨y2.val % 64, by omega⟩,
    Fin.ext (by simp only [chan]; omega)⟩
  rw [at8, ← outV_apply]
  refine congrArg _ ?_
  unfold tok nthOf seqOf
  blk_ext [idx8]

end Cert.Kernel6Ideal.Attn

end

end
-- ==== Proof.Attn.Tail.lean ====
/- The attention's run: its array, and the rows after the padding that are its result. -/
module

public import proofs.«01_k».proof.Proof.Attn.Array
public import Idealize.ShloMosaic.Lib.StableHlo.Run
public import Idealize.ShloMosaic.Lib.Claim

@[expose] public section

set_option maxRecDepth 16384

noncomputable section

namespace Cert.Kernel6Ideal.Attn

open Cert.Kernel6Ideal Cert.Kernel6Ideal.Gen Cert.Attn
open Idealize.ShloMosaic Idealize.ShloMosaic.TcCoe Idealize.ShloMosaic.Tactic Idealize.SL.Sem

variable (m : (ℓ : Loc nD τ sig) → Buf (Elt Ideal) ℓ) (c : Dev nD)

/-- The rows after the padding. -/
def tailV (x : Vec Ideal S2x4224x1024 .f32) : Vec Ideal S2x4096x1024 .f32 :=
  extractStridedSlice S2x4096x1024 ![0, 128, 0] x slices_S2x4224x1024_S2x4096x1024_0_128_0

/-- The host's slice after the kernel. -/
theorem tail_eq : Pipeline.afterTail₀ cfgs (dats (F := Ideal) m) 0 (V0 m) [hostOps1] c main_v1 =
    tailV (outV (qA m c) (kA m c) (kvA m c) (sA m c)) := by
  unfold Pipeline.afterTail₀
  show StableHlo.after hostOps1 _ (Proc.devRef .tc main_v1) = _
  after_results
  refine congrArg tailV ?_
  exact ((dats (F := Ideal) m 0 c).withArrays_arrAt sharedIn0 (V0 m c) (A_eq m c) 8).trans (final8 m c)

/-- After every run the result holds the attention's rows after the padding, and the arguments are as they were. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v1) = tailV (outV (qA m c) (kA m c) (kvA m c) (sA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c).2 main_v1 (Pipeline.mem_restRefs_of main_v1 (by decide) (by decide))).trans (tail_eq m c), h.2 c⟩)
    (θ_run_and (run_main (F := Ideal) m ρ) (unchanged (F := Ideal) m ρ))

end Cert.Kernel6Ideal.Attn

end

end
-- ==== Proof.Attn.Stages.lean ====
/- The attention's mathematics, one operation at a time, in the order of the reference's lines. -/
module

public import proofs.«01_k».proof.Proof.Gen.Reference6Ideal.Run
public import Idealize.ShloMosaic.Lib.Pipeline.Value
public import Idealize.ShloMosaic.Lib.ValueIdx
public import Idealize.ShloMosaic.PureOps.Ideal.Laws

@[expose] public section

noncomputable section

namespace Cert.Reference6Ideal.Stage

open Cert.Reference6Ideal Cert.Reference6Ideal.Gen Idealize.ShloMosaic Idealize.ShloMosaic.TcCoe Idealize.SL.Sem Idealize.ShloMosaic.StableHlo

variable {F : FTy → Type} [FloatOps F]

/-! ## The queries of the tokens, the keys and the values without the padding, split into blocks and heads -/

def val_main_v0 (x0 : (⟨S2x4224x1024, .f32⟩ : BufTy).Contents (Elt F)) : (⟨S2x4096x1024, .f32⟩ : BufTy).Contents (Elt F) :=
  extractStridedSlice S2x4096x1024 ![0, 128, 0] (x0) slices_S2x4224x1024_S2x4096x1024_0_128_0

def val_main_v1 (x1 : (⟨S2x4224x256, .f32⟩ : BufTy).Contents (Elt F)) : (⟨S2x4112x256, .f32⟩ : BufTy).Contents (Elt F) :=
  extractStridedSlice S2x4112x256 ![0, 112, 0] (x1) slices_S2x4224x256_S2x4112x256_0_112_0

def val_main_v2 (x2 : (⟨S2x4224x512, .f32⟩ : BufTy).Contents (Elt F)) : (⟨S2x4112x256, .f32⟩ : BufTy).Contents (Elt F) :=
  extractStridedSlice S2x4112x256 ![0, 112, 256] (x2) slices_S2x4224x512_S2x4112x256_0_112_256

def val_main_v3 (x1 : (⟨S2x4224x256, .f32⟩ : BufTy).Contents (Elt F)) : (⟨S2x4112x4x64, .f32⟩ : BufTy).Contents (Elt F) :=
  shapeCast _ (val_main_v1 (F := F) x1) shapeCasts_S2x4112x256_S2x4112x4x64

def val_main_v4 (x2 : (⟨S2x4224x512, .f32⟩ : BufTy).Contents (Elt F)) : (⟨S2x4112x4x64, .f32⟩ : BufTy).Contents (Elt F) :=
  shapeCast _ (val_main_v2 (F := F) x2) shapeCasts_S2x4112x256_S2x4112x4x64

def val_main_v5 (x0 : (⟨S2x4224x1024, .f32⟩ : BufTy).Contents (Elt F)) : (⟨S2x32x128x4x4x64, .f32⟩ : BufTy).Contents (Elt F) :=
  shapeCast _ (val_main_v0 (F := F) x0) shapeCasts_S2x4096x1024_S2x32x128x4x4x64

def val_main_v6 (x1 : (⟨S2x4224x256, .f32⟩ : BufTy).Contents (Elt F)) : (⟨S2x16x4x64, .f32⟩ : BufTy).Contents (Elt F) :=
  extractStridedSlice S2x16x4x64 ![0, 0, 0, 0] (val_main_v3 (F := F) x1) slices_S2x4112x4x64_S2x16x4x64_0_0_0_0

def val_main_v7 (x2 : (⟨S2x4224x512, .f32⟩ : BufTy).Contents (Elt F)) : (⟨S2x16x4x64, .f32⟩ : BufTy).Contents (Elt F) :=
  extractStridedSlice S2x16x4x64 ![0, 0, 0, 0] (val_main_v4 (F := F) x2) slices_S2x4112x4x64_S2x16x4x64_0_0_0_0

def val_main_v8 (x1 : (⟨S2x4224x256, .f32⟩ : BufTy).Contents (Elt F)) : (⟨S2x4096x4x64, .f32⟩ : BufTy).Contents (Elt F) :=
  extractStridedSlice S2x4096x4x64 ![0, 16, 0, 0] (val_main_v3 (F := F) x1) slices_S2x4112x4x64_S2x4096x4x64_0_16_0_0

def val_main_v9 (x1 : (⟨S2x4224x256, .f32⟩ : BufTy).Contents (Elt F)) : (⟨S2x32x128x4x64, .f32⟩ : BufTy).Contents (Elt F) :=
  shapeCast _ (val_main_v8 (F := F) x1) shapeCasts_S2x4096x4x64_S2x32x128x4x64

def val_main_v10 (x2 : (⟨S2x4224x512, .f32⟩ : BufTy).Contents (Elt F)) : (⟨S2x4096x4x64, .f32⟩ : BufTy).Contents (Elt F) :=
  extractStridedSlice S2x4096x4x64 ![0, 16, 0, 0] (val_main_v4 (F := F) x2) slices_S2x4112x4x64_S2x4096x4x64_0_16_0_0

def val_main_v11 (x2 : (⟨S2x4224x512, .f32⟩ : BufTy).Contents (Elt F)) : (⟨S2x32x128x4x64, .f32⟩ : BufTy).Contents (Elt F) :=
  shapeCast _ (val_main_v10 (F := F) x2) shapeCasts_S2x4096x4x64_S2x32x128x4x64

/-! ## The band of a block: the block before it, or zeros, and the block itself -/

def val_main_cst : (⟨S_, .f32⟩ : BufTy).Contents (Elt F) :=
  constant S_ .f32 0x00000000#32

def val_main_v12 : (⟨S2x1x128x4x64, .f32⟩ : BufTy).Contents (Elt F) :=
  broadcastInDim S2x1x128x4x64 ![] bcast_S_S2x1x128x4x64 (val_main_cst (F := F))

def val_main_v13 (x1 : (⟨S2x4224x256, .f32⟩ : BufTy).Contents (Elt F)) : (⟨S2x31x128x4x64, .f32⟩ : BufTy).Contents (Elt F) :=
  extractStridedSlice S2x31x128x4x64 ![0, 0, 0, 0, 0] (val_main_v9 (F := F) x1) slices_S2x32x128x4x64_S2x31x128x4x64_0_0_0_0_0

def val_main_v14 (x1 : (⟨S2x4224x256, .f32⟩ : BufTy).Contents (Elt F)) : (⟨S2x32x128x4x64, .f32⟩ : BufTy).Contents (Elt F) :=
  concatenate S2x32x128x4x64 1 [⟨S2x1x128x4x64, (val_main_v12 (F := F))⟩, ⟨S2x31x128x4x64, (val_main_v13 (F := F) x1)⟩] concatenates_S2x1x128x4x64_S2x31x128x4x64_S2x32x128x4x64_d1

def val_main_v15 (x1 : (⟨S2x4224x256, .f32⟩ : BufTy).Contents (Elt F)) : (⟨S2x32x256x4x64, .f32⟩ : BufTy).Contents (Elt F) :=
  concatenate S2x32x256x4x64 2 [⟨S2x32x128x4x64, (val_main_v14 (F := F) x1)⟩, ⟨S2x32x128x4x64, (val_main_v9 (F := F) x1)⟩] concatenates_S2x32x128x4x64_S2x32x128x4x64_S2x32x256x4x64_d2

def val_main_v16 (x2 : (⟨S2x4224x512, .f32⟩ : BufTy).Contents (Elt F)) : (⟨S2x31x128x4x64, .f32⟩ : BufTy).Contents (Elt F) :=
  extractStridedSlice S2x31x128x4x64 ![0, 0, 0, 0, 0] (val_main_v11 (F := F) x2) slices_S2x32x128x4x64_S2x31x128x4x64_0_0_0_0_0

def val_main_v17 (x2 : (⟨S2x4224x512, .f32⟩ : BufTy).Contents (Elt F)) : (⟨S2x32x128x4x64, .f32⟩ : BufTy).Contents (Elt F) :=
  concatenate S2x32x128x4x64 1 [⟨S2x1x128x4x64, (val_main_v12 (F := F))⟩, ⟨S2x31x128x4x64, (val_main_v16 (F := F) x2)⟩] concatenates_S2x1x128x4x64_S2x31x128x4x64_S2x32x128x4x64_d1

def val_main_v18 (x2 : (⟨S2x4224x512, .f32⟩ : BufTy).Contents (Elt F)) : (⟨S2x32x256x4x64, .f32⟩ : BufTy).Contents (Elt F) :=
  concatenate S2x32x256x4x64 2 [⟨S2x32x128x4x64, (val_main_v17 (F := F) x2)⟩, ⟨S2x32x128x4x64, (val_main_v11 (F := F) x2)⟩] concatenates_S2x32x128x4x64_S2x32x128x4x64_S2x32x256x4x64_d2

/-! ## The scores of the queries against the band -/

def val_main_v19 (x0 : (⟨S2x4224x1024, .f32⟩ : BufTy).Contents (Elt F)) (x1 : (⟨S2x4224x256, .f32⟩ : BufTy).Contents (Elt F)) : (⟨S2x32x4x256x128x4, .f32⟩ : BufTy).Contents (Elt F) :=
  Host.dotGeneral dot_S2x32x256x4x64_S2x32x128x4x4x64_S2x32x4x256x128x4_4_5_2_24_013_013 none (val_main_v15 (F := F) x1) (val_main_v5 (F := F) x0)

def val_main_v20 (x0 : (⟨S2x4224x1024, .f32⟩ : BufTy).Contents (Elt F)) (x1 : (⟨S2x4224x256, .f32⟩ : BufTy).Contents (Elt F)) : (⟨S2x32x4x4x128x256, .f32⟩ : BufTy).Contents (Elt F) :=
  transpose S2x32x4x4x128x256 [0, 1, 2, 5, 4, 3] (val_main_v19 (F := F) x0 x1) transposes_S2x32x4x256x128x4_S2x32x4x4x128x256_0_1_2_5_4_3

def val_main_cst_0 : (⟨S_, .f32⟩ : BufTy).Contents (Elt F) :=
  constant S_ .f32 0x3E000000#32

def val_main_v21 : (⟨S2x32x4x4x128x256, .f32⟩ : BufTy).Contents (Elt F) :=
  broadcastInDim S2x32x4x4x128x256 ![] bcast_S_S2x32x4x4x128x256 (val_main_cst_0 (F := F))

def val_main_v22 (x0 : (⟨S2x4224x1024, .f32⟩ : BufTy).Contents (Elt F)) (x1 : (⟨S2x4224x256, .f32⟩ : BufTy).Contents (Elt F)) : (⟨S2x32x4x4x128x256, .f32⟩ : BufTy).Contents (Elt F) :=
  mulf (val_main_v20 (F := F) x0 x1) (val_main_v21 (F := F))

/-! ## Which keys of the band a query sees -/

def val_main_v23 : (⟨S128, .i32⟩ : BufTy).Contents (Elt F) :=
  iotaInDim S128 32 0

def val_main_v24 : (⟨S128x1, .i32⟩ : BufTy).Contents (Elt F) :=
  broadcastInDim S128x1 ![0] bcast_S128_S128x1_0 (val_main_v23 (F := F))

def val_main_v25 : (⟨S256, .i32⟩ : BufTy).Contents (Elt F) :=
  iotaInDim S256 32 0

def val_main_v26 : (⟨S1x256, .i32⟩ : BufTy).Contents (Elt F) :=
  broadcastInDim S1x256 ![1] bcast_S256_S1x256_1 (val_main_v25 (F := F))

def val_main_c : (⟨S_, .i32⟩ : BufTy).Contents (Elt F) :=
  constantI S_ 32 128#32

def val_main_v27 : (⟨S128x1, .i32⟩ : BufTy).Contents (Elt F) :=
  broadcastInDim S128x1 ![] bcast_S_S128x1 (val_main_c (F := F))

def val_main_v28 : (⟨S128x1, .i32⟩ : BufTy).Contents (Elt F) :=
  addi (val_main_v24 (F := F)) (val_main_v27 (F := F))

def val_main_v29 : (⟨S128x256, .i32⟩ : BufTy).Contents (Elt F) :=
  broadcastInDim S128x256 ![0, 1] bcast_S128x1_S128x256_0_1 (val_main_v28 (F := F))

def val_main_v30 : (⟨S128x256, .i32⟩ : BufTy).Contents (Elt F) :=
  broadcastInDim S128x256 ![0, 1] bcast_S1x256_S128x256_0_1 (val_main_v26 (F := F))

def val_main_v31 : (⟨S128x256, .i32⟩ : BufTy).Contents (Elt F) :=
  subi (val_main_v29 (F := F)) (val_main_v30 (F := F))

def val_main_v32 : (⟨S32, .i32⟩ : BufTy).Contents (Elt F) :=
  iotaInDim S32 32 0

def val_main_v33 : (⟨S32x1x1, .i32⟩ : BufTy).Contents (Elt F) :=
  broadcastInDim S32x1x1 ![0] bcast_S32_S32x1x1_0 (val_main_v32 (F := F))

def val_main_c_1 : (⟨S_, .i32⟩ : BufTy).Contents (Elt F) :=
  constantI S_ 32 0#32

def val_main_v34 : (⟨S128x256, .i32⟩ : BufTy).Contents (Elt F) :=
  broadcastInDim S128x256 ![] bcast_S_S128x256 (val_main_c_1 (F := F))

def val_main_v35 : (⟨S128x256, .i1⟩ : BufTy).Contents (Elt F) :=
  cmpi .sge (val_main_v31 (F := F)) (val_main_v34 (F := F))

def val_main_c_2 : (⟨S_, .i32⟩ : BufTy).Contents (Elt F) :=
  constantI S_ 32 128#32

def val_main_v36 : (⟨S128x256, .i32⟩ : BufTy).Contents (Elt F) :=
  broadcastInDim S128x256 ![] bcast_S_S128x256 (val_main_c_2 (F := F))

def val_main_v37 : (⟨S128x256, .i1⟩ : BufTy).Contents (Elt F) :=
  cmpi .slt (val_main_v31 (F := F)) (val_main_v36 (F := F))

def val_main_v38 : (⟨S128x256, .i1⟩ : BufTy).Contents (Elt F) :=
  andi (val_main_v35 (F := F)) (val_main_v37 (F := F))

def val_main_c_3 : (⟨S_, .i32⟩ : BufTy).Contents (Elt F) :=
  constantI S_ 32 0#32

def val_main_v39 : (⟨S32x1x1, .i32⟩ : BufTy).Contents (Elt F) :=
  broadcastInDim S32x1x1 ![] bcast_S_S32x1x1 (val_main_c_3 (F := F))

def val_main_v40 : (⟨S32x1x1, .i1⟩ : BufTy).Contents (Elt F) :=
  cmpi .sgt (val_main_v33 (F := F)) (val_main_v39 (F := F))

def val_main_c_4 : (⟨S_, .i32⟩ : BufTy).Contents (Elt F) :=
  constantI S_ 32 128#32

def val_main_v41 : (⟨S1x256, .i32⟩ : BufTy).Contents (Elt F) :=
  broadcastInDim S1x256 ![] bcast_S_S1x256 (val_main_c_4 (F := F))

def val_main_v42 : (⟨S1x256, .i1⟩ : BufTy).Contents (Elt F) :=
  cmpi .sge (val_main_v26 (F := F)) (val_main_v41 (F := F))

def val_main_v43 : (⟨S1x1x256, .i1⟩ : BufTy).Contents (Elt F) :=
  broadcastInDim S1x1x256 ![1, 2] bcast_S1x256_S1x1x256_1_2 (val_main_v42 (F := F))

def val_main_v44 : (⟨S32x1x256, .i1⟩ : BufTy).Contents (Elt F) :=
  broadcastInDim S32x1x256 ![0, 1, 2] bcast_S32x1x1_S32x1x256_0_1_2 (val_main_v40 (F := F))

def val_main_v45 : (⟨S32x1x256, .i1⟩ : BufTy).Contents (Elt F) :=
  broadcastInDim S32x1x256 ![0, 1, 2] bcast_S1x1x256_S32x1x256_0_1_2 (val_main_v43 (F := F))

def val_main_v46 : (⟨S32x1x256, .i1⟩ : BufTy).Contents (Elt F) :=
  ori (val_main_v44 (F := F)) (val_main_v45 (F := F))

def val_main_v47 : (⟨S1x128x256, .i1⟩ : BufTy).Contents (Elt F) :=
  broadcastInDim S1x128x256 ![1, 2] bcast_S128x256_S1x128x256_1_2 (val_main_v38 (F := F))

def val_main_v48 : (⟨S32x128x256, .i1⟩ : BufTy).Contents (Elt F) :=
  broadcastInDim S32x128x256 ![0, 1, 2] bcast_S1x128x256_S32x128x256_0_1_2 (val_main_v47 (F := F))

def val_main_v49 : (⟨S32x128x256, .i1⟩ : BufTy).Contents (Elt F) :=
  broadcastInDim S32x128x256 ![0, 1, 2] bcast_S32x1x256_S32x128x256_0_1_2 (val_main_v46 (F := F))

def val_main_v50 : (⟨S32x128x256, .i1⟩ : BufTy).Contents (Elt F) :=
  andi (val_main_v48 (F := F)) (val_main_v49 (F := F))

def val_main_v51 : (⟨S1x32x1x1x128x256, .i1⟩ : BufTy).Contents (Elt F) :=
  broadcastInDim S1x32x1x1x128x256 ![1, 4, 5] bcast_S32x128x256_S1x32x1x1x128x256_1_4_5 (val_main_v50 (F := F))

/-! ## The scores with minus infinity where a key is not seen -/

def val_main_cst_5 : (⟨S_, .f32⟩ : BufTy).Contents (Elt F) :=
  constant S_ .f32 0xFF800000#32

def val_main_call0_v0 : (⟨S_, .f32⟩ : BufTy).Contents (Elt F) :=
  id (val_main_cst_5 (F := F))

def val_main_call0_v1 : (⟨S2x32x4x4x128x256, .i1⟩ : BufTy).Contents (Elt F) :=
  broadcastInDim S2x32x4x4x128x256 ![0, 1, 2, 3, 4, 5] bcast_S1x32x1x1x128x256_S2x32x4x4x128x256_0_1_2_3_4_5 (val_main_v51 (F := F))

def val_main_call0_v2 : (⟨S2x32x4x4x128x256, .f32⟩ : BufTy).Contents (Elt F) :=
  broadcastInDim S2x32x4x4x128x256 ![] bcast_S_S2x32x4x4x128x256 (val_main_call0_v0 (F := F))

def val_main_v52 (x0 : (⟨S2x4224x1024, .f32⟩ : BufTy).Contents (Elt F)) (x1 : (⟨S2x4224x256, .f32⟩ : BufTy).Contents (Elt F)) : (⟨S2x32x4x4x128x256, .f32⟩ : BufTy).Contents (Elt F) :=
  select (val_main_call0_v1 (F := F)) (val_main_v22 (F := F) x0 x1) (val_main_call0_v2 (F := F))

/-! ## The scores of the queries against the meta tokens -/

def val_main_v53 (x0 : (⟨S2x4224x1024, .f32⟩ : BufTy).Contents (Elt F)) (x1 : (⟨S2x4224x256, .f32⟩ : BufTy).Contents (Elt F)) : (⟨S2x4x16x32x128x4, .f32⟩ : BufTy).Contents (Elt F) :=
  Host.dotGeneral dot_S2x16x4x64_S2x32x128x4x4x64_S2x4x16x32x128x4_3_5_1_124_02_03 none (val_main_v6 (F := F) x1) (val_main_v5 (F := F) x0)

def val_main_v54 (x0 : (⟨S2x4224x1024, .f32⟩ : BufTy).Contents (Elt F)) (x1 : (⟨S2x4224x256, .f32⟩ : BufTy).Contents (Elt F)) : (⟨S2x32x4x4x128x16, .f32⟩ : BufTy).Contents (Elt F) :=
  transpose S2x32x4x4x128x16 [0, 3, 1, 5, 4, 2] (val_main_v53 (F := F) x0 x1) transposes_S2x4x16x32x128x4_S2x32x4x4x128x16_0_3_1_5_4_2

def val_main_cst_6 : (⟨S_, .f32⟩ : BufTy).Contents (Elt F) :=
  constant S_ .f32 0x3E000000#32

def val_main_v55 : (⟨S2x32x4x4x128x16, .f32⟩ : BufTy).Contents (Elt F) :=
  broadcastInDim S2x32x4x4x128x16 ![] bcast_S_S2x32x4x4x128x16 (val_main_cst_6 (F := F))

def val_main_v56 (x0 : (⟨S2x4224x1024, .f32⟩ : BufTy).Contents (Elt F)) (x1 : (⟨S2x4224x256, .f32⟩ : BufTy).Contents (Elt F)) : (⟨S2x32x4x4x128x16, .f32⟩ : BufTy).Contents (Elt F) :=
  mulf (val_main_v54 (F := F) x0 x1) (val_main_v55 (F := F))

/-! ## The largest score of a row, the sink among them -/

def val_main_v57 (x3 : (⟨S1x16, .f32⟩ : BufTy).Contents (Elt F)) : (⟨S4x4, .f32⟩ : BufTy).Contents (Elt F) :=
  shapeCast _ (x3) shapeCasts_S1x16_S4x4

def val_main_v58 (x3 : (⟨S1x16, .f32⟩ : BufTy).Contents (Elt F)) : (⟨S1x1x4x4x1, .f32⟩ : BufTy).Contents (Elt F) :=
  broadcastInDim S1x1x4x4x1 ![2, 3] bcast_S4x4_S1x1x4x4x1_2_3 (val_main_v57 (F := F) x3)

def val_main_cst_7 : (⟨S_, .f32⟩ : BufTy).Contents (Elt F) :=
  constant S_ .f32 0xFF800000#32

def val_main_v59 (x0 : (⟨S2x4224x1024, .f32⟩ : BufTy).Contents (Elt F)) (x1 : (⟨S2x4224x256, .f32⟩ : BufTy).Contents (Elt F)) : (⟨S2x32x4x4x128, .f32⟩ : BufTy).Contents (Elt F) :=
  Host.reduce FloatOps.maximumf (val_main_v52 (F := F) x0 x1) (val_main_cst_7 (F := F)) reducesTo_S2x32x4x4x128x256_S2x32x4x4x128_d5 h_S_

def val_main_cst_8 : (⟨S_, .f32⟩ : BufTy).Contents (Elt F) :=
  constant S_ .f32 0xFF800000#32

def val_main_v60 (x0 : (⟨S2x4224x1024, .f32⟩ : BufTy).Contents (Elt F)) (x1 : (⟨S2x4224x256, .f32⟩ : BufTy).Contents (Elt F)) : (⟨S2x32x4x4x128, .f32⟩ : BufTy).Contents (Elt F) :=
  Host.reduce FloatOps.maximumf (val_main_v56 (F := F) x0 x1) (val_main_cst_8 (F := F)) reducesTo_S2x32x4x4x128x16_S2x32x4x4x128_d5 h_S_

def val_main_v61 (x0 : (⟨S2x4224x1024, .f32⟩ : BufTy).Contents (Elt F)) (x1 : (⟨S2x4224x256, .f32⟩ : BufTy).Contents (Elt F)) : (⟨S2x32x4x4x128, .f32⟩ : BufTy).Contents (Elt F) :=
  maximumf (val_main_v59 (F := F) x0 x1) (val_main_v60 (F := F) x0 x1)

def val_main_v62 (x3 : (⟨S1x16, .f32⟩ : BufTy).Contents (Elt F)) : (⟨S2x32x4x4x128, .f32⟩ : BufTy).Contents (Elt F) :=
  broadcastInDim S2x32x4x4x128 ![0, 1, 2, 3, 4] bcast_S1x1x4x4x1_S2x32x4x4x128_0_1_2_3_4 (val_main_v58 (F := F) x3)

def val_main_v63 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  maximumf (val_main_v61 (F := F) x0 x1) (val_main_v62 (F := F) x3)

/-! ## The exponentials of the scores less the largest -/

def val_main_v64 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x1, .f32⟩ : BufTy).Contents (Elt F) :=
  broadcastInDim S2x32x4x4x128x1 ![0, 1, 2, 3, 4] bcast_S2x32x4x4x128_S2x32x4x4x128x1_0_1_2_3_4 (val_main_v63 (F := F) x0 x1 x3)

def val_main_v65 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x256, .f32⟩ : BufTy).Contents (Elt F) :=
  broadcastInDim S2x32x4x4x128x256 ![0, 1, 2, 3, 4, 5] bcast_S2x32x4x4x128x1_S2x32x4x4x128x256_0_1_2_3_4_5 (val_main_v64 (F := F) x0 x1 x3)

def val_main_v66 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x256, .f32⟩ : BufTy).Contents (Elt F) :=
  subf (val_main_v52 (F := F) x0 x1) (val_main_v65 (F := F) x0 x1 x3)

def val_main_v67 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x256, .f32⟩ : BufTy).Contents (Elt F) :=
  Host.exp (val_main_v66 (F := F) x0 x1 x3)

def val_main_v68 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x1, .f32⟩ : BufTy).Contents (Elt F) :=
  broadcastInDim S2x32x4x4x128x1 ![0, 1, 2, 3, 4] bcast_S2x32x4x4x128_S2x32x4x4x128x1_0_1_2_3_4 (val_main_v63 (F := F) x0 x1 x3)

def val_main_v69 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x16, .f32⟩ : BufTy).Contents (Elt F) :=
  broadcastInDim S2x32x4x4x128x16 ![0, 1, 2, 3, 4, 5] bcast_S2x32x4x4x128x1_S2x32x4x4x128x16_0_1_2_3_4_5 (val_main_v68 (F := F) x0 x1 x3)

def val_main_v70 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x16, .f32⟩ : BufTy).Contents (Elt F) :=
  subf (val_main_v56 (F := F) x0 x1) (val_main_v69 (F := F) x0 x1 x3)

def val_main_v71 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128x16, .f32⟩ : BufTy).Contents (Elt F) :=
  Host.exp (val_main_v70 (F := F) x0 x1 x3)

/-! ## The sum of the exponentials -/

def val_main_cst_9 : (⟨S_, .f32⟩ : BufTy).Contents (Elt F) :=
  constant S_ .f32 0x00000000#32

def val_main_v72 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  Host.reduceAdd (val_main_v67 (F := F) x0 x1 x3) (val_main_cst_9 (F := F)) reducesTo_S2x32x4x4x128x256_S2x32x4x4x128_d5 h_S_

def val_main_cst_10 : (⟨S_, .f32⟩ : BufTy).Contents (Elt F) :=
  constant S_ .f32 0x00000000#32

def val_main_v73 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  Host.reduceAdd (val_main_v71 (F := F) x0 x1 x3) (val_main_cst_10 (F := F)) reducesTo_S2x32x4x4x128x16_S2x32x4x4x128_d5 h_S_

def val_main_v74 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  addf (val_main_v72 (F := F) x0 x1 x3) (val_main_v73 (F := F) x0 x1 x3)

def val_main_v75 (x3 : (⟨S1x16, .f32⟩ : BufTy).Contents (Elt F)) : (⟨S2x32x4x4x128, .f32⟩ : BufTy).Contents (Elt F) :=
  broadcastInDim S2x32x4x4x128 ![0, 1, 2, 3, 4] bcast_S1x1x4x4x1_S2x32x4x4x128_0_1_2_3_4 (val_main_v58 (F := F) x3)

def val_main_v76 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  subf (val_main_v75 (F := F) x3) (val_main_v63 (F := F) x0 x1 x3)

def val_main_v77 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  Host.exp (val_main_v76 (F := F) x0 x1 x3)

def val_main_v78 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x4x4x128, .f32⟩ : BufTy).Contents (Elt F) :=
  addf (val_main_v74 (F := F) x0 x1 x3) (val_main_v77 (F := F) x0 x1 x3)

/-! ## The weighted values, over that sum -/

def val_main_v79 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x32x4x64x4x128, .f32⟩ : BufTy).Contents (Elt F) :=
  Host.dotGeneral dot_S2x32x256x4x64_S2x32x4x4x128x256_S2x32x4x64x4x128_2_5_4_34_013_012 none (val_main_v18 (F := F) x2) (val_main_v67 (F := F) x0 x1 x3)

def val_main_v80 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x32x128x4x4x64, .f32⟩ : BufTy).Contents (Elt F) :=
  transpose S2x32x128x4x4x64 [0, 1, 5, 2, 4, 3] (val_main_v79 (F := F) x0 x1 x2 x3) transposes_S2x32x4x64x4x128_S2x32x128x4x4x64_0_1_5_2_4_3

def val_main_v81 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x4x64x32x4x128, .f32⟩ : BufTy).Contents (Elt F) :=
  Host.dotGeneral dot_S2x16x4x64_S2x32x4x4x128x16_S2x4x64x32x4x128_1_5_3_134_02_02 none (val_main_v7 (F := F) x2) (val_main_v71 (F := F) x0 x1 x3)

def val_main_v82 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x32x128x4x4x64, .f32⟩ : BufTy).Contents (Elt F) :=
  transpose S2x32x128x4x4x64 [0, 3, 5, 1, 4, 2] (val_main_v81 (F := F) x0 x1 x2 x3) transposes_S2x4x64x32x4x128_S2x32x128x4x4x64_0_3_5_1_4_2

def val_main_v83 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x32x128x4x4x64, .f32⟩ : BufTy).Contents (Elt F) :=
  addf (val_main_v80 (F := F) x0 x1 x2 x3) (val_main_v82 (F := F) x0 x1 x2 x3)

def val_main_v84 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x128x4x4, .f32⟩ : BufTy).Contents (Elt F) :=
  transpose S2x32x128x4x4 [0, 1, 4, 2, 3] (val_main_v78 (F := F) x0 x1 x3) transposes_S2x32x4x4x128_S2x32x128x4x4_0_1_4_2_3

def val_main_v85 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x128x4x4x1, .f32⟩ : BufTy).Contents (Elt F) :=
  broadcastInDim S2x32x128x4x4x1 ![0, 1, 2, 3, 4] bcast_S2x32x128x4x4_S2x32x128x4x4x1_0_1_2_3_4 (val_main_v84 (F := F) x0 x1 x3)

def val_main_v86 (x0 : (⟨S2x4224x1024, .f32⟩ : BufTy).Contents (Elt F)) (x1 : (⟨S2x4224x256, .f32⟩ : BufTy).Contents (Elt F)) (x3 : (⟨S1x16, .f32⟩ : BufTy).Contents (Elt F)) : (⟨S2x32x128x4x4x64, .f32⟩ : BufTy).Contents (Elt F) :=
  broadcastInDim S2x32x128x4x4x64 ![0, 1, 2, 3, 4, 5] bcast_S2x32x128x4x4x1_S2x32x128x4x4x64_0_1_2_3_4_5 (val_main_v85 (F := F) x0 x1 x3)

def val_main_v87 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x32x128x4x4x64, .f32⟩ : BufTy).Contents (Elt F) :=
  Host.divf (val_main_v83 (F := F) x0 x1 x2 x3) (val_main_v86 (F := F) x0 x1 x3)

def val_main_v88 (x0 : (⟨S2x4224x1024, .f32⟩ : BufTy).Contents (Elt F)) (x1 : (⟨S2x4224x256, .f32⟩ : BufTy).Contents (Elt F)) (x2 : (⟨S2x4224x512, .f32⟩ : BufTy).Contents (Elt F)) (x3 : (⟨S1x16, .f32⟩ : BufTy).Contents (Elt F)) : (⟨S2x4096x1024, .f32⟩ : BufTy).Contents (Elt F) :=
  shapeCast _ (val_main_v87 (F := F) x0 x1 x2 x3) shapeCasts_S2x32x128x4x4x64_S2x4096x1024

/-- What the reference's run leaves in its result is the last stage. -/
theorem val_main_v88_eq (m : (ℓ : Loc nD τ sig) → Buf (Elt F) ℓ) (c : Dev nD) :
    Cert.Reference6Ideal.Value.res_main_v88 m c = val_main_v88 (F := F) (m ((c.tc : Thread nD τ).loc main_arg0)) (m ((c.tc : Thread nD τ).loc main_arg1)) (m ((c.tc : Thread nD τ).loc main_arg2)) (m ((c.tc : Thread nD τ).loc main_arg3)) := by
  unfold Cert.Reference6Ideal.Value.res_main_v88; rfl

end Cert.Reference6Ideal.Stage

end
-- ==== Proof.Attn.RefKeys.lean ====
/- The queries, keys and values that the attention's mathematics reads, element by element. -/
module

public import proofs.«01_k».proof.Proof.Attn.Array
public import proofs.«01_k».proof.Proof.Attn.Stages
public import Idealize.ShloMosaic.Lib.ValueIdxRank6

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem

variable (q : Vec Ideal S2x4224x1024 .f32) (k : Vec Ideal S2x4224x256 .f32) (kv : Vec Ideal S2x4224x512 .f32) (s : Vec Ideal S1x16 .f32)
variable (b : Fin 2) (n : Fin 32) (r : Fin 128) (h g : Fin 4)

/-- The query of a row, -/
def qrow (e : Fin 64) : EReal := q (ix3 b (tok n.succ r) (chan h g e))
/-- a key of the band of two blocks, of which the first is zero before the first block, -/
def bandK (j : Fin 256) (e : Fin 64) : EReal :=
  two (fun c => if n.val = 0 then 0 else k (ix3 b (tok n.castSucc c) (ln h e))) (fun c => k (ix3 b (tok n.succ c) (ln h e))) j
/-- a value of it, -/
def bandV (j : Fin 256) (d : Fin 64) : EReal :=
  two (fun c => if n.val = 0 then 0 else kv (ix3 b (tok n.castSucc c) (vln (ln h d)))) (fun c => kv (ix3 b (tok n.succ c) (vln (ln h d)))) j
/-- a key of the meta tokens -/
def metaK (c : Fin 16) (e : Fin 64) : EReal := k (ix3 b (tok 0 ⟨112 + c.val, by omega⟩) (ln h e))
/-- and a value of them. -/
def metaV (c : Fin 16) (d : Fin 64) : EReal := kv (ix3 b (tok 0 ⟨112 + c.val, by omega⟩) (vln (ln h d)))

/-- The queries, by block, row and head. -/
theorem v5 (e : Fin 64) : val_main_v5 (F := Ideal) q (ix6 b n r h g e) = qrow q b n r h g e := by
  unfold val_main_v5 qrow
  rw [shapeCast_apply _ shapeCasts_S2x4096x1024_S2x32x128x4x4x64 _ (ix3 b (⟨128 * n.val + r.val, by omega⟩ : Fin 4096) (chan h g e)) (by
    rw [Shape.rowMajor_val_six, Shape.rowMajor_val_three]
    show (b.val * 4096 + (128 * n.val + r.val)) * 1024 + (256 * h.val + 64 * g.val + e.val) =
      ((((b.val * 32 + n.val) * 128 + r.val) * 4 + h.val) * 4 + g.val) * 64 + e.val
    omega)]
  have et : tok n.succ r = ⟨128 + (128 * n.val + r.val), by omega⟩ := Fin.ext (by simp only [tok, Fin.val_succ]; omega)
  rw [et]
  pointwise [val_main_v0]

/-- Rows of 256 channels, cut into blocks of 128 rows and heads of 64 channels, the first 16 rows left out. -/
theorem rows_apply (x : Vec Ideal S2x4112x256 .f32) (c : Fin 128) (e : Fin 64) :
    shapeCast S2x32x128x4x64 (extractStridedSlice S2x4096x4x64 ![0, 16, 0, 0] (shapeCast S2x4112x4x64 x shapeCasts_S2x4112x256_S2x4112x4x64)
      slices_S2x4112x4x64_S2x4096x4x64_0_16_0_0) shapeCasts_S2x4096x4x64_S2x32x128x4x64 (ix5 b n c h e) =
      x (ix3 b (⟨16 + (128 * n.val + c.val), by omega⟩ : Fin 4112) (ln h e)) := by
  rw [shapeCast_apply _ shapeCasts_S2x4096x4x64_S2x32x128x4x64 _ (ix4 b (⟨128 * n.val + c.val, by omega⟩ : Fin 4096) h e) (by
    rw [Shape.rowMajor_val_five, Shape.rowMajor_val_four]
    show ((b.val * 4096 + (128 * n.val + c.val)) * 4 + h.val) * 64 + e.val =
      (((b.val * 32 + n.val) * 128 + c.val) * 4 + h.val) * 64 + e.val
    omega)]
  rw [extractStridedSlice_apply _ _ slices_S2x4112x4x64_S2x4096x4x64_0_16_0_0 _ (ix4 b (⟨16 + (128 * n.val + c.val), by omega⟩ : Fin 4112) h e) (by
    intro a; match a with
    | ⟨0, _⟩ => exact (Nat.zero_add _).symm
    | ⟨1, _⟩ => rfl
    | ⟨2, _⟩ => exact (Nat.zero_add _).symm
    | ⟨3, _⟩ => exact (Nat.zero_add _).symm)]
  rw [shapeCast_apply _ shapeCasts_S2x4112x256_S2x4112x4x64 _ (ix3 b (⟨16 + (128 * n.val + c.val), by omega⟩ : Fin 4112) (ln h e)) (by
    rw [Shape.rowMajor_val_four, Shape.rowMajor_val_three]
    show (b.val * 4112 + (16 + (128 * n.val + c.val))) * 256 + (64 * h.val + e.val) =
      ((b.val * 4112 + (16 + (128 * n.val + c.val))) * 4 + h.val) * 64 + e.val
    omega)]

/-- The first 16 of such rows. -/
theorem first_apply (x : Vec Ideal S2x4112x256 .f32) (c : Fin 16) (e : Fin 64) :
    extractStridedSlice S2x16x4x64 ![0, 0, 0, 0] (shapeCast S2x4112x4x64 x shapeCasts_S2x4112x256_S2x4112x4x64)
      slices_S2x4112x4x64_S2x16x4x64_0_0_0_0 (ix4 b c h e) = x (ix3 b (⟨c.val, by omega⟩ : Fin 4112) (ln h e)) := by
  rw [extractStridedSlice_apply _ _ slices_S2x4112x4x64_S2x16x4x64_0_0_0_0 _ (ix4 b (⟨c.val, by omega⟩ : Fin 4112) h e) (by
    intro a; match a with
    | ⟨0, _⟩ => exact (Nat.zero_add _).symm
    | ⟨1, _⟩ => exact (Nat.zero_add _).symm
    | ⟨2, _⟩ => exact (Nat.zero_add _).symm
    | ⟨3, _⟩ => exact (Nat.zero_add _).symm)]
  rw [shapeCast_apply _ shapeCasts_S2x4112x256_S2x4112x4x64 _ (ix3 b (⟨c.val, by omega⟩ : Fin 4112) (ln h e)) (by
    rw [Shape.rowMajor_val_four, Shape.rowMajor_val_three]
    show (b.val * 4112 + c.val) * 256 + (64 * h.val + e.val) = ((b.val * 4112 + c.val) * 4 + h.val) * 64 + e.val
    omega)]

/-- The block before the first is zero. -/
theorem zero_apply (i : S2x1x128x4x64.Idx) : val_main_v12 (F := Ideal) i = (0 : EReal) :=
  (show val_main_v12 (F := Ideal) i = Ideal.ofBits .f32 0x00000000#32 from rfl).trans Ideal.ofBits_zero_f32

/-- A block with the block before it, zero before the first. -/
theorem band_apply (y : Vec Ideal S2x32x128x4x64 .f32) (j : Fin 256) (e : Fin 64) :
    concatenate S2x32x256x4x64 2 [⟨S2x32x128x4x64, concatenate S2x32x128x4x64 1 [⟨S2x1x128x4x64, val_main_v12 (F := Ideal)⟩,
      ⟨S2x31x128x4x64, extractStridedSlice S2x31x128x4x64 ![0, 0, 0, 0, 0] y slices_S2x32x128x4x64_S2x31x128x4x64_0_0_0_0_0⟩]
      concatenates_S2x1x128x4x64_S2x31x128x4x64_S2x32x128x4x64_d1⟩, ⟨S2x32x128x4x64, y⟩]
      concatenates_S2x32x128x4x64_S2x32x128x4x64_S2x32x256x4x64_d2 (ix5 b n j h e) =
      two (fun c => if hn : n.val = 0 then (0 : EReal) else y (ix5 b (⟨n.val - 1, by omega⟩ : Fin 32) c h e)) (fun c => y (ix5 b n c h e)) j := by
  have hz := zero_apply
  generalize val_main_v12 (F := Ideal) = z at *
  unfold two
  pointwise []
  by_cases hj : j.val < 128
  · by_cases hn : n.val = 0
    · rw [dif_pos hj, dif_pos hj, dif_pos (by omega), dif_pos hn]; exact hz _
    · rw [dif_pos hj, dif_pos hj, dif_neg (by omega), dif_neg hn]
  · rw [dif_neg hj, dif_neg hj]

/-- The keys of the tokens, by block. -/
theorem v9 (c : Fin 128) (e : Fin 64) : val_main_v9 (F := Ideal) k (ix5 b n c h e) = k (ix3 b (tok n.succ c) (ln h e)) := by
  have et : tok n.succ c = ⟨112 + (16 + (128 * n.val + c.val)), by omega⟩ := Fin.ext (by simp only [tok, Fin.val_succ]; omega)
  rw [et]
  refine (rows_apply b n h (val_main_v1 (F := Ideal) k) c e).trans ?_
  pointwise [val_main_v1]

/-- The values of the tokens, by block. -/
theorem v11 (c : Fin 128) (d : Fin 64) : val_main_v11 (F := Ideal) kv (ix5 b n c h d) = kv (ix3 b (tok n.succ c) (vln (ln h d))) := by
  have et : tok n.succ c = ⟨112 + (16 + (128 * n.val + c.val)), by omega⟩ := Fin.ext (by simp only [tok, Fin.val_succ]; omega)
  rw [et]
  refine (rows_apply b n h (val_main_v2 (F := Ideal) kv) c d).trans ?_
  pointwise [val_main_v2]
  rfl

/-- The keys of the meta tokens. -/
theorem v6 (c : Fin 16) (e : Fin 64) : val_main_v6 (F := Ideal) k (ix4 b c h e) = metaK k b h c e := by
  refine (first_apply b h (val_main_v1 (F := Ideal) k) c e).trans ?_
  unfold metaK
  have et : tok 0 ⟨112 + c.val, by omega⟩ = ⟨112 + c.val, by omega⟩ := Fin.ext (by simp only [tok, Fin.val_zero]; omega)
  rw [et]
  pointwise [val_main_v1]

/-- The values of the meta tokens. -/
theorem v7 (c : Fin 16) (d : Fin 64) : val_main_v7 (F := Ideal) kv (ix4 b c h d) = metaV kv b h c d := by
  refine (first_apply b h (val_main_v2 (F := Ideal) kv) c d).trans ?_
  unfold metaV
  have et : tok 0 ⟨112 + c.val, by omega⟩ = ⟨112 + c.val, by omega⟩ := Fin.ext (by simp only [tok, Fin.val_zero]; omega)
  rw [et]
  pointwise [val_main_v2]
  rfl

/-- The block before, among the rows of the padded array. -/
theorem before_eq (hn : ¬ n.val = 0) (c : Fin 128) : tok (Fin.succ (⟨n.val - 1, by omega⟩ : Fin 32)) c = tok n.castSucc c :=
  Fin.ext (by simp only [tok, Fin.val_succ, Fin.val_castSucc]; omega)

/-- The keys of the band. -/
theorem v15 (j : Fin 256) (e : Fin 64) : val_main_v15 (F := Ideal) k (ix5 b n j h e) = bandK k b n h j e := by
  refine (band_apply b n h (val_main_v9 (F := Ideal) k) j e).trans (two_congr (fun c => ?_) (fun c => v9 k b n h c e) j)
  by_cases hn : n.val = 0
  · rw [dif_pos hn, if_pos hn]
  · rw [dif_neg hn, if_neg hn, v9, before_eq n hn]

/-- The values of the band. -/
theorem v18 (j : Fin 256) (d : Fin 64) : val_main_v18 (F := Ideal) kv (ix5 b n j h d) = bandV kv b n h j d := by
  refine (band_apply b n h (val_main_v11 (F := Ideal) kv) j d).trans (two_congr (fun c => ?_) (fun c => v11 kv b n h c d) j)
  by_cases hn : n.val = 0
  · rw [dif_pos hn, if_pos hn]
  · rw [dif_neg hn, if_neg hn, v11, before_eq n hn]

end Cert.Reference6Ideal.Attn

end

end
-- ==== Proof.Attn.RefMask.lean ====
/- The window of the attention's mathematics. -/
module

public import proofs.«01_k».proof.Proof.Attn.Array
public import proofs.«01_k».proof.Proof.Attn.Stages
public import Idealize.ShloMosaic.Lib.ValueIdxRank6

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem
open Idealize.ShloMosaic.WordCmp

/-- The mask of the band at one query and key. -/
theorem mask_word (b : Fin 2) (n : Fin 32) (r : Fin 128) (h g : Fin 4) (j : Fin 256) : val_main_call0_v1 (F := Ideal) (ix6 b n h g r j) =
    IntOp.andi (IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) 128#32))
      (IntOp.ori (IntOp.cmpi .sgt (BitVec.ofNat 32 n.val) 0#32) (IntOp.cmpi .sge (BitVec.ofNat 32 j.val) 128#32)) := by
  pointwise [val_main_call0_v1, val_main_v51, val_main_v50, val_main_v49, val_main_v48, val_main_v47, val_main_v46, val_main_v45, val_main_v44,
    val_main_v43, val_main_v42, val_main_v41, val_main_v40, val_main_v39, val_main_v38]
  pointwise [val_main_v37, val_main_v36, val_main_v35, val_main_v34, val_main_v33, val_main_v32, val_main_v31, val_main_v30, val_main_v29,
    val_main_v28, val_main_v27, val_main_v26, val_main_v25, val_main_v24, val_main_v23]
  rfl

/-- A negative distance fails the test. -/
theorem negative (m : Fin 128) (hm : 0 < m.val) : IntOp.cmpi .sge (IntOp.subi 0#32 (BitVec.ofNat 32 m.val)) 0#32 = 0#1 := by
  revert m; decide

/-- A key of the band is seen where the window of 128 keys reaches it and it is no key before the first block. -/
theorem mask_sel {α : Type} (b : Fin 2) (n : Fin 32) (r : Fin 128) (h g : Fin 4) (j : Fin 256) (x y : α) :
    Scalar.select (val_main_call0_v1 (F := Ideal) (ix6 b n h g r j)) x y = if Sees (decide (0 < n.val)) r j then x else y := by
  rw [mask_word]
  have hr := r.isLt; have hj := j.isLt; have hn := n.isLt
  have e1 : IntOp.cmpi .sgt (BitVec.ofNat 32 n.val) 0#32 = BitVec.ofBool (decide (0 < n.val)) := cmpi_sgt_ofNat (by omega) (by omega)
  have e2 : IntOp.cmpi .sge (BitVec.ofNat 32 j.val) 128#32 = BitVec.ofBool (decide (128 ≤ j.val)) := cmpi_sge_ofNat (by omega) (by omega)
  rw [e1, e2]
  by_cases hc : j.val ≤ r.val + 128
  · have es : IntOp.subi (IntOp.addi (BitVec.ofNat 32 r.val) 128#32) (BitVec.ofNat 32 j.val) = BitVec.ofNat 32 (r.val + 128 - j.val) := by
      apply BitVec.eq_of_toNat_eq
      simp [IntOp.subi, IntOp.addi, BitVec.toNat_sub]; omega
    have e3 : IntOp.cmpi .sge (BitVec.ofNat 32 (r.val + 128 - j.val)) 0#32 = BitVec.ofBool (decide (0 ≤ r.val + 128 - j.val)) :=
      cmpi_sge_ofNat (by omega) (by omega)
    have e4 : IntOp.cmpi .slt (BitVec.ofNat 32 (r.val + 128 - j.val)) 128#32 = BitVec.ofBool (decide (r.val + 128 - j.val < 128)) :=
      cmpi_slt_ofNat (by omega) (by omega)
    rw [es, e3, e4]
    unfold Sees
    by_cases h1 : j.val < 128
    · have h2 : ¬ 128 ≤ j.val := by omega
      by_cases h3 : r.val < j.val
      · have h4 : r.val + 128 - j.val < 128 := by omega
        by_cases h5 : 0 < n.val <;> simp [h1, h2, h3, h4, h5, IntOp.ori, IntOp.andi, Scalar.select]
      · have h4 : ¬ r.val + 128 - j.val < 128 := by omega
        by_cases h5 : 0 < n.val <;> simp [h1, h2, h3, h4, h5, IntOp.ori, IntOp.andi, Scalar.select]
    · have h2 : 128 ≤ j.val := by omega
      have h4 : r.val + 128 - j.val < 128 := by omega
      have h6 : j.val - 128 ≤ r.val := by omega
      by_cases h5 : 0 < n.val <;> simp only [h1, h2, h4, h5, h6] <;> simp [IntOp.ori, IntOp.andi, Scalar.select]
  · have es : IntOp.subi (IntOp.addi (BitVec.ofNat 32 r.val) 128#32) (BitVec.ofNat 32 j.val) =
        IntOp.subi 0#32 (BitVec.ofNat 32 (j.val - r.val - 128)) := by
      apply BitVec.eq_of_toNat_eq
      simp [IntOp.subi, IntOp.addi, BitVec.toNat_sub]; omega
    rw [es, negative ⟨j.val - r.val - 128, by omega⟩ (show 0 < j.val - r.val - 128 by omega)]
    have hs : ¬ Sees (decide (0 < n.val)) r j := by unfold Sees; omega
    rw [if_neg hs]
    simp [IntOp.andi, Scalar.select]

end Cert.Reference6Ideal.Attn

end

end
-- ==== Proof.Attn.RefMax.lean ====
/- The greatest of a row of scores. -/
module

public import proofs.«01_k».proof.Proof.Attn.Array
public import proofs.«01_k».proof.Proof.Attn.Stages
public import Idealize.ShloMosaic.Lib.ValueIdxRank6

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem

/-- The scores of one row are the entries along the last axis, 256 of them. -/
theorem set256 (b : Fin 2) (n : Fin 32) (r : Fin 128) (h g : Fin 4) :
    (Finset.univ.filter fun i => reducesTo_S2x32x4x4x128x256_S2x32x4x4x128_d5.drop i = ix5 b n h g r) =
      Finset.univ.image fun j : Fin 256 => (ix6 b n h g r j : S2x32x4x4x128x256.Idx) := by
  ext i
  rw [Finset.mem_filter, Finset.mem_image]
  have hd := fun (i : S2x32x4x4x128x256.Idx) => And.intro (reducesTo_S2x32x4x4x128x256_S2x32x4x4x128_d5.drop_apply_val_of_eq i 0 0)
    (And.intro (reducesTo_S2x32x4x4x128x256_S2x32x4x4x128_d5.drop_apply_val_of_eq i 1 1)
    (And.intro (reducesTo_S2x32x4x4x128x256_S2x32x4x4x128_d5.drop_apply_val_of_eq i 2 2)
    (And.intro (reducesTo_S2x32x4x4x128x256_S2x32x4x4x128_d5.drop_apply_val_of_eq i 3 3)
      (reducesTo_S2x32x4x4x128x256_S2x32x4x4x128_d5.drop_apply_val_of_eq i 4 4))))
  constructor
  · rintro ⟨-, e⟩
    obtain ⟨h0, h1, h2, h3, h4⟩ := hd i
    refine ⟨i 5, Finset.mem_univ _, funext fun a => Fin.ext ?_⟩
    match a with
    | ⟨0, _⟩ => exact ((congrArg Fin.val (congrFun e 0)).symm.trans h0)
    | ⟨1, _⟩ => exact ((congrArg Fin.val (congrFun e 1)).symm.trans h1)
    | ⟨2, _⟩ => exact ((congrArg Fin.val (congrFun e 2)).symm.trans h2)
    | ⟨3, _⟩ => exact ((congrArg Fin.val (congrFun e 3)).symm.trans h3)
    | ⟨4, _⟩ => exact ((congrArg Fin.val (congrFun e 4)).symm.trans h4)
    | ⟨5, _⟩ => rfl
  · rintro ⟨j, -, rfl⟩
    obtain ⟨h0, h1, h2, h3, h4⟩ := hd (ix6 b n h g r j)
    refine ⟨Finset.mem_univ _, funext fun a => Fin.ext ?_⟩
    match a with
    | ⟨0, _⟩ => exact h0
    | ⟨1, _⟩ => exact h1
    | ⟨2, _⟩ => exact h2
    | ⟨3, _⟩ => exact h3
    | ⟨4, _⟩ => exact h4

/-- The greatest of a row of 256 scores. -/
theorem top256 (x : Vec Ideal S2x32x4x4x128x256 .f32) (b : Fin 2) (n : Fin 32) (r : Fin 128) (h g : Fin 4) :
    Host.reduce (FloatOps.maximumf (F := Ideal) (φ := .f32)) x (val_main_cst_7 (F := Ideal)) reducesTo_S2x32x4x4x128x256_S2x32x4x4x128_d5 h_S_ (ix5 b n h g r) =
      top fun j => x (ix6 b n h g r j) := by
  have e : Host.reduce (FloatOps.maximumf (F := Ideal) (φ := .f32)) x (val_main_cst_7 (F := Ideal)) reducesTo_S2x32x4x4x128x256_S2x32x4x4x128_d5 h_S_ (ix5 b n h g r) =
      Finset.fold max (Ideal.ofBits .f32 0xFF800000#32) x
        (Finset.univ.filter fun i => reducesTo_S2x32x4x4x128x256_S2x32x4x4x128_d5.drop i = ix5 b n h g r) := by
    pointwise [val_main_cst_7]
  rw [e, set256, ofBits_bot, Finset.fold_image (fun j _ j' _ e => congrFun e 5)]
  rfl

/-- The scores of one row are the entries along the last axis, 16 of them. -/
theorem set16 (b : Fin 2) (n : Fin 32) (r : Fin 128) (h g : Fin 4) :
    (Finset.univ.filter fun i => reducesTo_S2x32x4x4x128x16_S2x32x4x4x128_d5.drop i = ix5 b n h g r) =
      Finset.univ.image fun j : Fin 16 => (ix6 b n h g r j : S2x32x4x4x128x16.Idx) := by
  ext i
  rw [Finset.mem_filter, Finset.mem_image]
  have hd := fun (i : S2x32x4x4x128x16.Idx) => And.intro (reducesTo_S2x32x4x4x128x16_S2x32x4x4x128_d5.drop_apply_val_of_eq i 0 0)
    (And.intro (reducesTo_S2x32x4x4x128x16_S2x32x4x4x128_d5.drop_apply_val_of_eq i 1 1)
    (And.intro (reducesTo_S2x32x4x4x128x16_S2x32x4x4x128_d5.drop_apply_val_of_eq i 2 2)
    (And.intro (reducesTo_S2x32x4x4x128x16_S2x32x4x4x128_d5.drop_apply_val_of_eq i 3 3)
      (reducesTo_S2x32x4x4x128x16_S2x32x4x4x128_d5.drop_apply_val_of_eq i 4 4))))
  constructor
  · rintro ⟨-, e⟩
    obtain ⟨h0, h1, h2, h3, h4⟩ := hd i
    refine ⟨i 5, Finset.mem_univ _, funext fun a => Fin.ext ?_⟩
    match a with
    | ⟨0, _⟩ => exact ((congrArg Fin.val (congrFun e 0)).symm.trans h0)
    | ⟨1, _⟩ => exact ((congrArg Fin.val (congrFun e 1)).symm.trans h1)
    | ⟨2, _⟩ => exact ((congrArg Fin.val (congrFun e 2)).symm.trans h2)
    | ⟨3, _⟩ => exact ((congrArg Fin.val (congrFun e 3)).symm.trans h3)
    | ⟨4, _⟩ => exact ((congrArg Fin.val (congrFun e 4)).symm.trans h4)
    | ⟨5, _⟩ => rfl
  · rintro ⟨j, -, rfl⟩
    obtain ⟨h0, h1, h2, h3, h4⟩ := hd (ix6 b n h g r j)
    refine ⟨Finset.mem_univ _, funext fun a => Fin.ext ?_⟩
    match a with
    | ⟨0, _⟩ => exact h0
    | ⟨1, _⟩ => exact h1
    | ⟨2, _⟩ => exact h2
    | ⟨3, _⟩ => exact h3
    | ⟨4, _⟩ => exact h4

/-- The greatest of a row of 16 scores. -/
theorem top16 (x : Vec Ideal S2x32x4x4x128x16 .f32) (b : Fin 2) (n : Fin 32) (r : Fin 128) (h g : Fin 4) :
    Host.reduce (FloatOps.maximumf (F := Ideal) (φ := .f32)) x (val_main_cst_8 (F := Ideal)) reducesTo_S2x32x4x4x128x16_S2x32x4x4x128_d5 h_S_ (ix5 b n h g r) =
      top fun j => x (ix6 b n h g r j) := by
  have e : Host.reduce (FloatOps.maximumf (F := Ideal) (φ := .f32)) x (val_main_cst_8 (F := Ideal)) reducesTo_S2x32x4x4x128x16_S2x32x4x4x128_d5 h_S_ (ix5 b n h g r) =
      Finset.fold max (Ideal.ofBits .f32 0xFF800000#32) x
        (Finset.univ.filter fun i => reducesTo_S2x32x4x4x128x16_S2x32x4x4x128_d5.drop i = ix5 b n h g r) := by
    pointwise [val_main_cst_8]
  rw [e, set16, ofBits_bot, Finset.fold_image (fun j _ j' _ e => congrFun e 5)]
  rfl

end Cert.Reference6Ideal.Attn

end

end
-- ==== Proof.Attn.RefDot.lean ====
/- The products of the attention's mathematics, element by element. -/
module

public import proofs.«01_k».proof.Proof.Attn.Array
public import proofs.«01_k».proof.Proof.Attn.Stages
public import Idealize.ShloMosaic.Lib.ValueIdxRank6

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem

/-- The products of queries and band keys, entry by entry. -/
theorem band_dot (x : Vec Ideal S2x32x256x4x64 .f32) (y : Vec Ideal S2x32x128x4x4x64 .f32) (b : Fin 2) (n : Fin 32) (r : Fin 128) (h g : Fin 4)
    (j : Fin 256) : Host.dotGeneral (F := Ideal) (φ₁ := .f32) (φ₂ := .f32) dot_S2x32x256x4x64_S2x32x128x4x4x64_S2x32x4x256x128x4_4_5_2_24_013_013 none x y (ix6 b n h j r g) =
      ∑ e : Fin 64, x (ix5 b n j h e) * y (ix6 b n r h g e) := by
  pointwise []

/-- The products of queries and meta keys, entry by entry. -/
theorem meta_dot (x : Vec Ideal S2x16x4x64 .f32) (y : Vec Ideal S2x32x128x4x4x64 .f32) (b : Fin 2) (n : Fin 32) (r : Fin 128) (h g : Fin 4)
    (c : Fin 16) : Host.dotGeneral (F := Ideal) (φ₁ := .f32) (φ₂ := .f32) dot_S2x16x4x64_S2x32x128x4x4x64_S2x4x16x32x128x4_3_5_1_124_02_03 none x y (ix6 b h c n r g) =
      ∑ e : Fin 64, x (ix4 b c h e) * y (ix6 b n r h g e) := by
  pointwise []

/-- The band values weighted, entry by entry. -/
theorem band_sum (x : Vec Ideal S2x32x256x4x64 .f32) (y : Vec Ideal S2x32x4x4x128x256 .f32) (b : Fin 2) (n : Fin 32) (r : Fin 128) (h g : Fin 4)
    (d : Fin 64) : Host.dotGeneral (F := Ideal) (φ₁ := .f32) (φ₂ := .f32) dot_S2x32x256x4x64_S2x32x4x4x128x256_S2x32x4x64x4x128_2_5_4_34_013_012 none x y (ix6 b n h d g r) =
      ∑ j : Fin 256, x (ix5 b n j h d) * y (ix6 b n h g r j) := by
  pointwise []

/-- The meta values weighted, entry by entry. -/
theorem meta_sum (x : Vec Ideal S2x16x4x64 .f32) (y : Vec Ideal S2x32x4x4x128x16 .f32) (b : Fin 2) (n : Fin 32) (r : Fin 128) (h g : Fin 4)
    (d : Fin 64) : Host.dotGeneral (F := Ideal) (φ₁ := .f32) (φ₂ := .f32) dot_S2x16x4x64_S2x32x4x4x128x16_S2x4x64x32x4x128_1_5_3_134_02_02 none x y (ix6 b h d n g r) =
      ∑ c : Fin 16, x (ix4 b c h d) * y (ix6 b n h g r c) := by
  pointwise []

end Cert.Reference6Ideal.Attn

end

end
-- ==== Proof.Attn.RefScore.lean ====
/- The scores of the attention's mathematics, their greatest and their exponentials. -/
module

public import proofs.«01_k».proof.Proof.Attn.RefKeys
public import proofs.«01_k».proof.Proof.Attn.RefMask
public import proofs.«01_k».proof.Proof.Attn.RefMax
public import proofs.«01_k».proof.Proof.Attn.RefDot

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem

variable (q : Vec Ideal S2x4224x1024 .f32) (k : Vec Ideal S2x4224x256 .f32) (kv : Vec Ideal S2x4224x512 .f32) (s : Vec Ideal S1x16 .f32)
variable (b : Fin 2) (n : Fin 32) (r : Fin 128) (h g : Fin 4)

/-- The masked scores of a row against the band -/
def bandS (j : Fin 256) : EReal := if Sees (decide (0 < n.val)) r j then score (qrow q b n r h g) (bandK k b n h j) else ⊥
/-- and its scores against the meta tokens. -/
def metaS (c : Fin 16) : EReal := score (qrow q b n r h g) (metaK k b h c)
/-- The greatest score of a row, with its head's sink. -/
def most : EReal := max (max (top (bandS q k b n r h g)) (top (metaS q k b n r h g))) (s (ix2 0 (snk h g)))

/-- The scaled scores against the band. -/
theorem v22 (j : Fin 256) : val_main_v22 (F := Ideal) q k (ix6 b n h g r j) = score (qrow q b n r h g) (bandK k b n h j) := by
  have e : val_main_v22 (F := Ideal) q k (ix6 b n h g r j) = val_main_v19 (F := Ideal) q k (ix6 b n h j r g) * eighth := by
    unfold val_main_v22 val_main_v20
    generalize val_main_v19 (F := Ideal) q k = y
    pointwise [val_main_v21, val_main_cst_0]
    rfl
  rw [e]
  unfold score val_main_v19
  rw [band_dot]
  refine congrArg (· * eighth) (Finset.sum_congr rfl fun d _ => ?_)
  rw [v5, v15, mul_comm]

/-- The masked scores against the band. -/
theorem v52 (j : Fin 256) : val_main_v52 (F := Ideal) q k (ix6 b n h g r j) = bandS q k b n r h g j := by
  have e : val_main_v52 (F := Ideal) q k (ix6 b n h g r j) = Scalar.select (val_main_call0_v1 (F := Ideal) (ix6 b n h g r j))
      (val_main_v22 (F := Ideal) q k (ix6 b n h g r j)) (Ideal.ofBits .f32 0xFF800000#32) := by
    unfold val_main_v52
    generalize val_main_v22 (F := Ideal) q k = y
    generalize val_main_call0_v1 (F := Ideal) = z
    pointwise [val_main_call0_v2, val_main_call0_v0, val_main_cst_5]
    rfl
  rw [e, mask_sel, v22, ofBits_bot]
  rfl

/-- The scaled scores against the meta tokens. -/
theorem v56 (c : Fin 16) : val_main_v56 (F := Ideal) q k (ix6 b n h g r c) = metaS q k b n r h g c := by
  have e : val_main_v56 (F := Ideal) q k (ix6 b n h g r c) = val_main_v53 (F := Ideal) q k (ix6 b h c n r g) * eighth := by
    unfold val_main_v56 val_main_v54
    generalize val_main_v53 (F := Ideal) q k = y
    pointwise [val_main_v55, val_main_cst_6]
    rfl
  rw [e]
  unfold metaS score val_main_v53
  rw [meta_dot]
  refine congrArg (· * eighth) (Finset.sum_congr rfl fun d _ => ?_)
  rw [v5, v6, mul_comm]

/-- The sink of a row's head. -/
theorem v62 : val_main_v62 (F := Ideal) s (ix5 b n h g r) = s (ix2 0 (snk h g)) := by
  have e : val_main_v62 (F := Ideal) s (ix5 b n h g r) = val_main_v57 (F := Ideal) s (ix2 h g) := by
    unfold val_main_v62 val_main_v58
    generalize val_main_v57 (F := Ideal) s = y
    pointwise []
  rw [e]
  unfold val_main_v57
  rw [shapeCast_apply _ shapeCasts_S1x16_S4x4 _ (ix2 (0 : Fin 1) (snk h g)) (by
    rw [Shape.rowMajor_val_two, Shape.rowMajor_val_two]
    show 0 * 16 + (4 * h.val + g.val) = h.val * 4 + g.val
    omega)]

/-- The largest of three arrays, entry by entry. -/
theorem max3_apply (x y z : Vec Ideal S2x32x4x4x128 .f32) (i : S2x32x4x4x128.Idx) :
    maximumf (F := Ideal) (φ := .f32) (maximumf (F := Ideal) (φ := .f32) x y) z i = max (max (x i : EReal) (y i : EReal)) (z i : EReal) := rfl

/-- The largest score of a row. -/
theorem v63 : val_main_v63 (F := Ideal) q k s (ix5 b n h g r) = most q k s b n r h g := by
  have e59 : val_main_v59 (F := Ideal) q k (ix5 b n h g r) = top (bandS q k b n r h g) := by
    unfold val_main_v59
    rw [top256]
    exact congrArg top (funext fun j => v52 q k b n r h g j)
  have e60 : val_main_v60 (F := Ideal) q k (ix5 b n h g r) = top (metaS q k b n r h g) := by
    unfold val_main_v60
    rw [top16]
    exact congrArg top (funext fun c => v56 q k b n r h g c)
  have e : val_main_v63 (F := Ideal) q k s (ix5 b n h g r) = max (max (val_main_v59 (F := Ideal) q k (ix5 b n h g r) : EReal)
      (val_main_v60 (F := Ideal) q k (ix5 b n h g r) : EReal)) (val_main_v62 (F := Ideal) s (ix5 b n h g r) : EReal) := max3_apply _ _ _ _
  rw [e, e59, e60, v62]
  rfl

/-- The exponentials of the band scores. -/
theorem v67 (j : Fin 256) : val_main_v67 (F := Ideal) q k s (ix6 b n h g r j) = Ideal.exp (bandS q k b n r h g j - most q k s b n r h g) := by
  have e : val_main_v67 (F := Ideal) q k s (ix6 b n h g r j) =
      Ideal.exp (val_main_v52 (F := Ideal) q k (ix6 b n h g r j) - val_main_v63 (F := Ideal) q k s (ix5 b n h g r)) := by
    unfold val_main_v67 val_main_v66 val_main_v65 val_main_v64
    generalize val_main_v52 (F := Ideal) q k = y
    generalize val_main_v63 (F := Ideal) q k s = z
    pointwise []
  rw [e, v52, v63]

/-- The exponentials of the meta scores. -/
theorem v71 (c : Fin 16) : val_main_v71 (F := Ideal) q k s (ix6 b n h g r c) = Ideal.exp (metaS q k b n r h g c - most q k s b n r h g) := by
  have e : val_main_v71 (F := Ideal) q k s (ix6 b n h g r c) =
      Ideal.exp (val_main_v56 (F := Ideal) q k (ix6 b n h g r c) - val_main_v63 (F := Ideal) q k s (ix5 b n h g r)) := by
    unfold val_main_v71 val_main_v70 val_main_v69 val_main_v68
    generalize val_main_v56 (F := Ideal) q k = y
    generalize val_main_v63 (F := Ideal) q k s = z
    pointwise []
  rw [e, v56, v63]

end Cert.Reference6Ideal.Attn

end

end
-- ==== Proof.Attn.RefOut.lean ====
/- What the attention's mathematics computes, element by element. -/
module

public import proofs.«01_k».proof.Proof.Attn.RefScore

@[expose] public section

set_option maxRecDepth 16384

noncomputable section

namespace Cert.Reference6Ideal.Attn

open Cert.Reference6Ideal Cert.Reference6Ideal.Gen Cert.Reference6Ideal.Stage Cert.Attn
open Cert.Kernel6Ideal.Attn (tok chan vln snk ofBits_bot)
open Idealize.ShloMosaic Idealize.ShloMosaic.TcCoe Idealize.ShloMosaic.Tactic Idealize.SL.Sem

variable (q : Vec Ideal S2x4224x1024 .f32) (k : Vec Ideal S2x4224x256 .f32) (kv : Vec Ideal S2x4224x512 .f32) (s : Vec Ideal S1x16 .f32)
variable (b : Fin 2) (n : Fin 32) (r : Fin 128) (h g : Fin 4)

/-- A sum of three arrays, entry by entry. -/
theorem total_apply (x y z w : Vec Ideal S2x32x4x4x128 .f32) (i : S2x32x4x4x128.Idx) :
    addf (F := Ideal) (φ := .f32) (addf (F := Ideal) (φ := .f32) x y) (Host.exp (F := Ideal) (φ := .f32) (subf (F := Ideal) (φ := .f32) z w)) i =
      (x i : EReal) + (y i : EReal) + Ideal.exp ((z i : EReal) - (w i : EReal)) := rfl

/-- The sum of a row's exponentials, the sink's among them. -/
theorem v78 : val_main_v78 (F := Ideal) q k s (ix5 b n h g r) =
    ∑ j, Ideal.exp (bandS q k b n r h g j - most q k s b n r h g) + ∑ c, Ideal.exp (metaS q k b n r h g c - most q k s b n r h g) +
      Ideal.exp (s (ix2 0 (snk h g)) - most q k s b n r h g) := by
  have e72 : val_main_v72 (F := Ideal) q k s (ix5 b n h g r) = ∑ j : Fin 256, val_main_v67 (F := Ideal) q k s (ix6 b n h g r j) := by
    unfold val_main_v72
    generalize val_main_v67 (F := Ideal) q k s = y
    simp only [Host.reduceAdd, Ideal.hostReduceAdd_def]
    rw [Ideal.hostReduceAdd_single reducesTo_S2x32x4x4x128x256_S2x32x4x4x128_d5 (by decide)]
    refine (congrArg₂ (· + ·) Ideal.ofBits_zero_f32 (Finset.sum_congr rfl fun j _ => ?_)).trans (zero_add _)
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  have e73 : val_main_v73 (F := Ideal) q k s (ix5 b n h g r) = ∑ c : Fin 16, val_main_v71 (F := Ideal) q k s (ix6 b n h g r c) := by
    unfold val_main_v73
    generalize val_main_v71 (F := Ideal) q k s = y
    simp only [Host.reduceAdd, Ideal.hostReduceAdd_def]
    rw [Ideal.hostReduceAdd_single reducesTo_S2x32x4x4x128x16_S2x32x4x4x128_d5 (by decide)]
    refine (congrArg₂ (· + ·) Ideal.ofBits_zero_f32 (Finset.sum_congr rfl fun c _ => ?_)).trans (zero_add _)
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  have e : val_main_v78 (F := Ideal) q k s (ix5 b n h g r) = (val_main_v72 (F := Ideal) q k s (ix5 b n h g r) : EReal) +
      (val_main_v73 (F := Ideal) q k s (ix5 b n h g r) : EReal) +
      Ideal.exp ((val_main_v62 (F := Ideal) s (ix5 b n h g r) : EReal) - (val_main_v63 (F := Ideal) q k s (ix5 b n h g r) : EReal)) :=
    total_apply _ _ _ _ _
  rw [e, e72, e73, v62, v63]
  simp only [v67, v71]

/-- The weighted values of a row. -/
theorem v83 (d : Fin 64) : val_main_v83 (F := Ideal) q k kv s (ix6 b n r h g d) =
    ∑ j, Ideal.exp (bandS q k b n r h g j - most q k s b n r h g) * bandV kv b n h j d +
      ∑ c, Ideal.exp (metaS q k b n r h g c - most q k s b n r h g) * metaV kv b h c d := by
  have e80 : val_main_v80 (F := Ideal) q k kv s (ix6 b n r h g d) = val_main_v79 (F := Ideal) q k kv s (ix6 b n h d g r) := by
    unfold val_main_v80
    generalize val_main_v79 (F := Ideal) q k kv s = y
    pointwise []
  have e82 : val_main_v82 (F := Ideal) q k kv s (ix6 b n r h g d) = val_main_v81 (F := Ideal) q k kv s (ix6 b h d n g r) := by
    unfold val_main_v82
    generalize val_main_v81 (F := Ideal) q k kv s = y
    pointwise []
  have e : val_main_v83 (F := Ideal) q k kv s (ix6 b n r h g d) = (val_main_v80 (F := Ideal) q k kv s (ix6 b n r h g d) : EReal) +
      (val_main_v82 (F := Ideal) q k kv s (ix6 b n r h g d) : EReal) := by
    unfold val_main_v83
    generalize val_main_v80 (F := Ideal) q k kv s = x
    generalize val_main_v82 (F := Ideal) q k kv s = y
    rfl
  rw [e, e80, e82]
  unfold val_main_v79 val_main_v81
  rw [band_sum, meta_sum]
  refine congrArg₂ (· + ·) (Finset.sum_congr rfl fun j _ => ?_) (Finset.sum_congr rfl fun c _ => ?_)
  · rw [v18, v67, mul_comm]
  · rw [v7, v71, mul_comm]

/-- The attention at a row, head and channel. -/
theorem value (d : Fin 64) : val_main_v88 (F := Ideal) q k kv s (ix3 b (⟨128 * n.val + r.val, by omega⟩ : Fin 4096) (chan h g d)) =
    att (bandS q k b n r h g) (metaS q k b n r h g) (s (ix2 0 (snk h g))) (fun j => bandV kv b n h j d) (fun c => metaV kv b h c d) := by
  have e86 : val_main_v86 (F := Ideal) q k s (ix6 b n r h g d) = val_main_v78 (F := Ideal) q k s (ix5 b n h g r) := by
    unfold val_main_v86 val_main_v85 val_main_v84
    generalize val_main_v78 (F := Ideal) q k s = y
    pointwise []
  have e87 : val_main_v87 (F := Ideal) q k kv s (ix6 b n r h g d) =
      Ideal.div (val_main_v83 (F := Ideal) q k kv s (ix6 b n r h g d)) (val_main_v86 (F := Ideal) q k s (ix6 b n r h g d)) := by
    unfold val_main_v87
    generalize val_main_v83 (F := Ideal) q k kv s = x
    generalize val_main_v86 (F := Ideal) q k s = y
    rfl
  unfold val_main_v88
  rw [shapeCast_apply _ shapeCasts_S2x32x128x4x4x64_S2x4096x1024 _ (ix6 b n r h g d) (by
    rw [Shape.rowMajor_val_six, Shape.rowMajor_val_three]
    show ((((b.val * 32 + n.val) * 128 + r.val) * 4 + h.val) * 4 + g.val) * 64 + d.val =
      (b.val * 4096 + (128 * n.val + r.val)) * 1024 + (256 * h.val + 64 * g.val + d.val)
    omega)]
  rw [e87, e86, v78, v83]
  unfold att most
  rfl

end Cert.Reference6Ideal.Attn

end

end
-- ==== Proof.Attn.Equal.lean ====
/- The attention's kernel computes the attention of its mathematics. -/
module

public import proofs.«01_k».proof.Proof.Attn.Tail
public import proofs.«01_k».proof.Proof.Attn.RefOut

@[expose] public section

set_option maxRecDepth 16384

noncomputable section

namespace Cert.Attn

open Cert.Kernel6Ideal.Attn Cert.Reference6Ideal.Attn Cert.Ffn
open Idealize.ShloMosaic Idealize.ShloMosaic.TcCoe Idealize.ShloMosaic.Tactic Idealize.SL.Sem

variable (q : Vec Ideal Kernel6Ideal.S2x4224x1024 .f32) (k : Vec Ideal Kernel6Ideal.S2x4224x256 .f32)
variable (kv : Vec Ideal Kernel6Ideal.S2x4224x512 .f32) (s : Vec Ideal Kernel6Ideal.S1x16 .f32)

/-- The scale is a real number. -/
theorem eighth_real : IsReal eighth := by
  refine ⟨1 / 8, ?_⟩
  unfold eighth; simp [Ideal.ofBits, Ideal.ieee]
  rw [← EReal.coe_mul]
  norm_num

/-- The score of a real query against a real key is real. -/
theorem score_real {x y : Fin 64 → EReal} (hx : ∀ d, IsReal (x d)) (hy : ∀ d, IsReal (y d)) : IsReal (score x y) :=
  (IsReal.sum _ fun d => (hx d).mul (hy d)).mul eighth_real

/-- A real number is not infinite. -/
theorem real_ne_top {x : EReal} (h : IsReal x) : x ≠ ⊤ := by obtain ⟨r, rfl⟩ := h; exact EReal.coe_ne_top r

/-- Two halves of real numbers make a row of real numbers. -/
theorem two_real {x y : Fin 128 → EReal} (hx : ∀ c, IsReal (x c)) (hy : ∀ c, IsReal (y c)) (j : Fin 256) : IsReal (two x y j) := by
  unfold two; split
  · exact hx _
  · exact hy _

/-- The block before a block that is not the first. -/
theorem before_succ (n : Fin 32) : before n.succ = n.castSucc := Fin.ext (by simp [before])

/-- The block has a block of tokens before it. -/
theorem late_iff (n : Fin 32) : decide (2 ≤ n.succ.val) = decide (0 < n.val) := by
  rw [Fin.val_succ]; exact decide_eq_decide.mpr (by omega)

/-- Where a key of the band is seen, the array and the mathematics read the same row. -/
theorem two_seen {n : Fin 32} {r : Fin 128} {j : Fin 256} (hj : Sees (decide (0 < n.val)) r j) (x y : Fin 128 → EReal) :
    two x y j = two (fun c => if n.val = 0 then 0 else x c) y j := by
  unfold two
  split
  · rename_i h
    have hn : ¬ n.val = 0 := by
      unfold Sees at hj
      rcases hj with ⟨-, -, h'⟩ | ⟨h', -⟩
      · have := of_decide_eq_true h'; omega
      · omega
    exact (if_neg hn).symm
  · rfl

/-- A row, head and channel of the kernel's array is the attention there. -/
theorem head_eq (hq : ∀ j, IsReal (q j)) (hk : ∀ j, IsReal (k j)) (hs : ∀ j, IsReal (s j)) (b : Fin 2) (n : Fin 32) (r : Fin 128) (h g : Fin 4)
    (d : Fin 64) : headAt q k kv s b n.succ r h g d =
      att (bandS q k b n r h g) (metaS q k b n r h g) (s (ix2 0 (snk h g))) (fun j => bandV kv b n h j d) (fun c => metaV kv b h c d) := by
  unfold headAt
  rw [attInv_eq, att_tail, att_swap, before_succ, late_iff]
  · have es : (fun j : Fin 256 => if Sees (decide (0 < n.val)) r j then score (fun e => q (ix3 b (tok n.succ r) (chan h g e)))
        (fun e => two (fun c => k (ix3 b (tok n.castSucc c) (ln h e))) (fun c => k (ix3 b (tok n.succ c) (ln h e))) j) else ⊥) =
        bandS q k b n r h g := by
      funext j
      unfold bandS
      by_cases hj : Sees (decide (0 < n.val)) r j
      · rw [if_pos hj, if_pos hj]
        exact congrArg (score (qrow q b n r h g)) (funext fun e => two_seen hj _ _)
      · rw [if_neg hj, if_neg hj]
    rw [es]
    refine (att_vals _ _ _ _ (fun j => bandV kv b n h j d) _ fun j hj => ?_).trans rfl
    have hsee : Sees (decide (0 < n.val)) r j := by
      by_contra hn
      exact hj (if_neg hn)
    exact two_seen hsee _ _
  · intro c
    split
    · exact real_ne_top (score_real (fun _ => hq _) fun _ => hk _)
    · exact bot_ne_top
  · intro j
    split
    · exact real_ne_top (score_real (fun _ => hq _) fun _ => two_real (fun _ => hk _) (fun _ => hk _) j)
    · exact bot_ne_top
  · exact hs _

/-- The kernel's result is that of the mathematics. -/
theorem tail_value (hq : ∀ j, IsReal (q j)) (hk : ∀ j, IsReal (k j)) (hs : ∀ j, IsReal (s j)) :
    tailV (outV q k kv s) = Reference6Ideal.Stage.val_main_v88 (F := Ideal) q k kv s := by
  funext j
  idx_vars j
  obtain ⟨n, r, rfl⟩ : ∃ (n : Fin 32) (r : Fin 128), j1 = ⟨128 * n.val + r.val, by omega⟩ :=
    ⟨⟨j1.val / 128, by omega⟩, ⟨j1.val % 128, by omega⟩, Fin.ext (by simp only; omega)⟩
  obtain ⟨h, g, d, rfl⟩ : ∃ h g d, j2 = chan h g d := ⟨⟨j2.val / 256, by omega⟩, ⟨j2.val / 64 % 4, by omega⟩, ⟨j2.val % 64, by omega⟩,
    Fin.ext (by simp only [chan]; omega)⟩
  rw [value, ← head_eq q k kv s hq hk hs, ← outV_apply]
  have et : tok n.succ r = ⟨128 + (128 * n.val + r.val), by omega⟩ := Fin.ext (by simp only [tok, Fin.val_succ]; omega)
  rw [et]
  generalize outV q k kv s = y
  pointwise [tailV]

end Cert.Attn

end

end
-- ==== Proof.lean ====
module

public import proofs.«01_k».proof.Defs
public import proofs.«01_k».proof.Proof.Gen.Kernel
public import proofs.«01_k».proof.Proof.Gen.KernelIdeal
public import proofs.«01_k».proof.Proof.Run.Printed
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Ffn.Finite
public import proofs.«01_k».proof.Proof.Ffn.Ref
public import proofs.«01_k».proof.Proof.Ffn.Wgu
public import proofs.«01_k».proof.Proof.Ffn.Wd
public import proofs.«01_k».proof.Proof.Fwd.Ref
public import proofs.«01_k».proof.Proof.Gen.Kernel6.Frame
public import proofs.«01_k».proof.Proof.Gen.Kernel6Ideal.Frame
public import proofs.«01_k».proof.Proof.Gen.Reference6Ideal.Run
public import proofs.«01_k».proof.Proof.Attn.Finite
public import proofs.«01_k».proof.Proof.Attn.Equal
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The printed attention gradient runs, leaves its arguments unchanged and its semaphores at zero. -/
theorem frame_kernel : Cert.quiescent_Kernel :=
  Cert.KernelIdeal.Run.frameAtBits_eq ▸ Cert.KernelIdeal.Run.frameAtBits

/-- The frame of the attention gradient over the extended reals. -/
theorem frame_kernelIdeal : Cert.quiescent_KernelIdeal := fun m ρ _ => Cert.KernelIdeal.Run.frame (F := Ideal) m ρ

/-- The one rewrite of the attention gradient: the mask's constant is read as minus infinity. -/
theorem preserves_kernel : Cert.preserves_Kernel_KernelIdeal :=
  IdealRules.named_const.statement Cert.KernelIdeal.κ "mask" .f32 0xF149F2CA#32 ⊥ rfl

/-- The frame of the reference for the feed-forward gradient: its run leaves the arguments, and it has no semaphore. -/
theorem frame_reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The frame of the reference for the gate and up projections' gradient. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The frame of the reference for the down projection's gradient. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The frame of the reference for the feed-forward block. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

open Cert.Kernel2Ideal.Ffn in
/-- The feed-forward gradient and its reference end with the same five results, the arguments being finite: the residual's
    gradient, the normalised rows, the gate and up activations' gradients, the activation, and the norm gain's gradient. -/
theorem algebraic2 : Cert.algebraic_Kernel2Ideal_Reference2Ideal_pre_finite2 := fun m ρ m' ρ' pre hag =>
  ⟨fun c => dhV (hA m c) (gA m c) (WA m c) (DA m c) (dA m c), fun c => hnV (hA m c) (gA m c),
    fun c => dabV (hA m c) (gA m c) (WA m c) (DA m c) (dA m c), fun c => actV (hA m c) (gA m c) (WA m c),
    fun c => dgV (hA m c) (gA m c) (WA m c) (DA m c) (dA m c),
    (θ_run Cert.Kernel2Ideal.defs _ _).mono (fun _ h c => by
        obtain ⟨r0, r1, r2, r3, r4, rest⟩ := h c
        exact ⟨r0.trans (final6 m c), r1.trans (final7 m c), r2.trans (final8 m c), r3.trans (final9 m c),
          r4.trans (final10 m c), rest⟩)
      (Cert.Kernel2Ideal.Value.run_blocks (F := Ideal) m ρ),
    (θ_run Cert.Reference2Ideal.defs _ _).mono (fun _ h c => by
        obtain ⟨r0, r1, r2, r3, r4, rest⟩ := h c
        obtain ⟨fh, fg, fW, fD, fd⟩ := Cert.Pre_finite2.finite _ _ _ _ _ (pre c)
        obtain ⟨a0, a1, a2, a3, a4⟩ := hag c
        refine ⟨r0.trans ((Cert.Reference2Ideal.Read.val_main_v52_eq m' c).trans ?_),
          r1.trans ((Cert.Reference2Ideal.Read.val_main_v78_eq _ _).trans ?_),
          r2.trans ((Cert.Reference2Ideal.Read.val_main_v79_eq m' c).trans ?_),
          r3.trans ((Cert.Reference2Ideal.Read.val_main_v80_eq _ _ _).trans ?_),
          r4.trans ((Cert.Reference2Ideal.Read.val_main_v35_eq m' c).trans ?_), rest⟩
        · rw [a0, a1, a2, a3, a4]; exact Cert.Reference2Ideal.Ffn.dh_eq _ _ _ _ _ fh fg fW fD fd
        · rw [a0, a1]; exact Cert.Reference2Ideal.Ffn.hn_eq _ _
        · rw [a0, a1, a2, a3, a4]; exact Cert.Reference2Ideal.Ffn.dab_eq _ _ _ _ _ fh fg fW fD fd
        · rw [a0, a1, a2]; exact Cert.Reference2Ideal.Ffn.act_eq _ _ _
        · rw [a0, a1, a2, a3, a4]; exact Cert.Reference2Ideal.Ffn.dg_eq _ _ _ _ _ fh fg fW fD fd)
      (Cert.Reference2Ideal.Value.run (F := Ideal) m' ρ')⟩

/-- The kernel of the gate and up projections' gradient and its reference compute the same product. -/
theorem algebraic3 : Cert.algebraic_Kernel3Ideal_Reference3Ideal := fun m ρ m' ρ' _ hag =>
  ⟨fun c => Cert.Kernel3Ideal.Ffn.prod (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run Cert.Kernel3Ideal.defs _ _).mono (fun _ h c => ⟨(h c).1.trans (Cert.Kernel3Ideal.Ffn.final m c), (h c).2⟩)
      (Cert.Kernel3Ideal.Value.run_blocks (F := Ideal) m ρ),
    (θ_run Cert.Reference3Ideal.defs _ _).mono (fun _ h c => ⟨(h c).1.trans ((Cert.Reference3Ideal.Read.val_main_v6_eq _ _).trans
        ((Cert.Kernel3Ideal.Ffn.reference _ _).trans (by rw [(hag c).1, (hag c).2]))), (h c).2⟩)
      (Cert.Reference3Ideal.Value.run (F := Ideal) m' ρ')⟩

/-- The kernel of the down projection's gradient and its reference compute the same bands. -/
theorem algebraic4 : Cert.algebraic_Kernel4Ideal_Reference4Ideal := fun m ρ m' ρ' _ hag =>
  ⟨fun c => Cert.Kernel4Ideal.Ffn.prod (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run Cert.Kernel4Ideal.defs _ _).mono (fun _ h c => ⟨(h c).1.trans (Cert.Kernel4Ideal.Ffn.final m c), (h c).2⟩)
      (Cert.Kernel4Ideal.Value.run_blocks (F := Ideal) m ρ),
    (θ_run Cert.Reference4Ideal.defs _ _).mono (fun _ h c => ⟨(h c).1.trans ((Cert.Reference4Ideal.Read.val_main_v9_eq _ _).trans
        ((Cert.Kernel4Ideal.Ffn.reference _ _).trans (by rw [(hag c).1, (hag c).2]))), (h c).2⟩)
      (Cert.Reference4Ideal.Value.run (F := Ideal) m' ρ')⟩

open Cert.Kernel5Ideal.Fwd in
/-- The feed-forward block and its reference end with the same two results: the rows leaving the block and the first
    product, which its gradient takes. -/
theorem algebraic5 : Cert.algebraic_Kernel5Ideal_Reference5Ideal := fun m ρ m' ρ' _ hag =>
  ⟨fun c => outV (hA m c) (gA m c) (WA m c) (DA m c), fun c => firstV (hA m c) (gA m c) (WA m c),
    (θ_run Cert.Kernel5Ideal.defs _ _).mono (fun _ h c =>
        ⟨(h c).1.trans (final4 m c), (h c).2.1.trans (final5 m c), (h c).2.2⟩)
      (Cert.Kernel5Ideal.Value.run_blocks (F := Ideal) m ρ),
    (θ_run Cert.Reference5Ideal.defs _ _).mono (fun _ h c => by
        obtain ⟨r0, r1, rest⟩ := h c
        obtain ⟨a0, a1, a2, a3⟩ := hag c
        refine ⟨r0.trans ((Cert.Reference5Ideal.Read.val_main_v20_eq _ _ _ _).trans ?_),
          r1.trans ((Cert.Reference5Ideal.Read.val_main_v34_eq _ _ _).trans ?_), rest⟩
        · rw [a0, a1, a2, a3]; exact Cert.Reference5Ideal.Fwd.out_eq _ _ _ _
        · rw [a0, a1, a2]; exact Cert.Reference5Ideal.Fwd.first_eq _ _ _)
      (Cert.Reference5Ideal.Value.run (F := Ideal) m' ρ')⟩

/-- The frame of the reference for the attention. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The one rewrite of the attention: the mask's constant is read as minus infinity. -/
theorem preserves_kernel6 : Cert.preserves_Kernel6_Kernel6Ideal :=
  IdealRules.named_const.statement Cert.Kernel6Ideal.κ "mask" .f32 0xF149F2CA#32 ⊥ rfl

open Cert.Kernel6Ideal.Attn in
/-- The attention and its reference end with the same rows, the queries, keys and sinks being finite. -/
theorem algebraic6 : Cert.algebraic_Kernel6Ideal_Reference6Ideal_pre_finite6 := fun m ρ m' ρ' pre hag =>
  ⟨fun c => tailV (outV (qA m c) (kA m c) (kvA m c) (sA m c)), Cert.Kernel6Ideal.Attn.run m ρ,
    (θ_run Cert.Reference6Ideal.defs _ _).mono (fun _ h c => by
        obtain ⟨r0, rest⟩ := h c
        obtain ⟨fq, fk, fs⟩ := Cert.Pre_finite6.finite _ _ _ _ (pre c)
        obtain ⟨a0, a1, a2, a3⟩ := hag c
        refine ⟨r0.trans ((Cert.Reference6Ideal.Stage.val_main_v88_eq m' c).trans ?_), rest⟩
        rw [a0, a1, a2, a3]
        exact (Cert.Attn.tail_value _ _ _ _ fq fk fs).symm)
      (Cert.Reference6Ideal.Value.run (F := Ideal) m' ρ')⟩

theorem claim : Cert.Claim := ⟨Cert.Kernel.Gen.facts, Cert.KernelIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite2.facts, Cert.Pre_finite6.facts, frame_kernel, frame_kernelIdeal,
  fun m ρ _ => Cert.Kernel2.Gen.frame m ρ, fun m ρ _ => Cert.Kernel2Ideal.Gen.frame m ρ,
  fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  preserves_kernel, trivial, algebraic2, trivial, algebraic3, trivial, algebraic4, trivial, algebraic5, preserves_kernel6,
  algebraic6⟩

end Cert.Proof

end
